-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_same_float_cell [hPre_same_float_cell : Cert.Pre_same_float_cell.Facts] (m : (ℓ : Loc Cert.KernelIdeal.nD Cert.KernelIdeal.τ Cert.KernelIdeal.sig) → Buf (Elt Ideal) ℓ) : Prop :=
  ∀ c : Dev Cert.KernelIdeal.nD,
    (Cert.Pre_same_float_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_same_float_cell [hPre_same_float_cell : Cert.Pre_same_float_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_same_float_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_same_float_cell [hKernelIdeal : Cert.KernelIdeal.Facts] [hPre_same_float_cell : Cert.Pre_same_float_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_same_float_cell m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_same_float_cell [hReferenceIdeal : Cert.ReferenceIdeal.Facts] [hPre_same_float_cell : Cert.Pre_same_float_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_same_float_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_same_float_cell [hKernelIdeal : Cert.KernelIdeal.Facts] [hReferenceIdeal : Cert.ReferenceIdeal.Facts] [hPre_same_float_cell : Cert.Pre_same_float_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_same_float_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_same_float_cell : Cert.Pre_same_float_cell.Facts),
    quiescent_Kernel (hKernel := hKernel)
    ∧ quiescent_KernelIdeal (hKernelIdeal := hKernelIdeal)
    ∧ quiescent_KernelIdeal_pre_same_float_cell (hKernelIdeal := hKernelIdeal) (hPre_same_float_cell := hPre_same_float_cell)
    ∧ quiescent_ReferenceIdeal (hReferenceIdeal := hReferenceIdeal)
    ∧ quiescent_ReferenceIdeal_pre_same_float_cell (hReferenceIdeal := hReferenceIdeal) (hPre_same_float_cell := hPre_same_float_cell)
    ∧ preserves_Kernel_KernelIdeal
    ∧ algebraic_KernelIdeal_ReferenceIdeal_pre_same_float_cell (hKernelIdeal := hKernelIdeal) (hReferenceIdeal := hReferenceIdeal) (hPre_same_float_cell := hPre_same_float_cell)
-- ==== Pre_same_float_cell.lean ====
abbrev S4096x1024 : Shape := ⟨2, ![4096, 1024]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S1x1024 : Shape := ⟨2, ![1, 1024]⟩
abbrev S4096x8192 : Shape := ⟨2, ![4096, 8192]⟩
abbrev S1x8192 : Shape := ⟨2, ![1, 8192]⟩
abbrev S_ : Shape := ⟨0, ![]⟩
abbrev S4096x65 : Shape := ⟨2, ![4096, 65]⟩
abbrev S4096x1 : Shape := ⟨2, ![4096, 1]⟩
abbrev S254 : Shape := ⟨1, ![254]⟩
abbrev S1x254 : Shape := ⟨2, ![1, 254]⟩
abbrev S4096x254 : Shape := ⟨2, ![4096, 254]⟩
abbrev S4096 : Shape := ⟨1, ![4096]⟩

class Facts : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  sliceFits_S4096x8192_S4096x65 : S4096x8192.Slices (fun _ => 0) S4096x65
  slices_S4096x65_S4096x1_0_63 : S4096x65.Slices ![0, 63] S4096x1
  slices_S4096x65_S4096x1_0_64 : S4096x65.Slices ![0, 64] S4096x1
  bcast_S_S254 : S_.BroadcastsInDim S254 (![] : Fin 0 → Fin S254.rank)
  bcast_S254_S1x254_1 : S254.BroadcastsInDim S1x254 (![1] : Fin 1 → Fin S1x254.rank)
  bcast_S_S1x254 : S_.BroadcastsInDim S1x254 (![] : Fin 0 → Fin S1x254.rank)
  bcast_S1x254_S4096x254_0_1 : S1x254.BroadcastsInDim S4096x254 (![0, 1] : Fin 2 → Fin S4096x254.rank)
  bcast_S4096x1_S4096x254_0_1 : S4096x1.BroadcastsInDim S4096x254 (![0, 1] : Fin 2 → Fin S4096x254.rank)
  bcast_S_S4096x254 : S_.BroadcastsInDim S4096x254 (![] : Fin 0 → Fin S4096x254.rank)
  reducesTo_S4096x254_S4096_d1 : S4096x254.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  reducesTo_S4096x8192_S4096_d1 : S4096x8192.ReducesTo [1] S4096
  dot_S4096x1024_S1024x8192_S4096x8192_1_0_0_1_n_n_wf : DotDims.WF S4096x1024 S1024x8192 S4096x8192 [1] [0] [0] [1] [] []

variable [Facts]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def fn_relu {F : FTy → Type} [FloatOps F] (arg0 : FVec F S4096x8192 .f32) : FVec F S4096x8192 .f32 :=
  let cst : FVec F S_ .f32 := constant S_ .f32 0x00000000#32
  let v0 : FVec F S4096x8192 .f32 := broadcastInDim S4096x8192 ![] bcast_S_S4096x8192 cst
  let v1 : FVec F S4096x8192 .f32 := maximumf arg0 v0
  v1

def fn_where {F : FTy → Type} [FloatOps F] (arg0 : IVec S4096x254 1) (arg1 : FVec F S1x254 .f32) (arg2 : FVec F S_ .f32) : FVec F S4096x254 .f32 :=
  let v0 : FVec F S4096x254 .f32 := broadcastInDim S4096x254 ![0, 1] bcast_S1x254_S4096x254_0_1 arg1
  let v1 : FVec F S4096x254 .f32 := broadcastInDim S4096x254 ![] bcast_S_S4096x254 arg2
  let v2 : FVec F S4096x254 .f32 := select arg0 v0 v1
  v2

def fn_part2 {F : FTy → Type} [FloatOps F] (main_v10 : FVec F S4096x1 .f32) (main_v31 : FVec F S4096x1 .f32) (main_v33 : IVec S4096x8192 1) (main_v36 : IVec S4096x8192 1) (main_v37 : FVec F S4096x1 .f32) : IVec S4096x1 1 :=
  let main_v38 : IVec S4096x1 1 := cmpf .oeq main_v31 main_v37
  let main_v39 : IVec S4096x8192 1 := broadcastInDim S4096x8192 ![0, 1] bcast_S4096x1_S4096x8192_0_1 main_v38
  let main_v40 : IVec S4096x8192 1 := ori main_v36 main_v39
  let main_v41 : IVec S4096x8192 1 := andi main_v33 main_v40
  let main_cst_7 : FVec F S_ .f32 := constant S_ .f32 0x00000000#32
  let main_v42 : FVec F S4096x1 .f32 := broadcastInDim S4096x1 ![] bcast_S_S4096x1 main_cst_7
  let main_v43 : IVec S4096x1 1 := cmpf .oeq main_v10 main_v42
  let main_v44 : IVec S4096x1 1 := cmpf .olt main_v10 main_v31
  let main_v45 : IVec S4096x1 1 := ori main_v43 main_v44
  let main_c : IVec S_ 1 := constantI S_ 1 0#1
  let main_v46 : IVec S4096 1 := (fun x v => Host.reduce IntOp.ori x v reducesTo_S4096x8192_S4096_d1 h_S_) main_v41 main_c
  let main_v47 : IVec S4096x1 1 := broadcastInDim S4096x1 ![0] bcast_S4096_S4096x1_0 main_v46
  let main_v48 : IVec S4096x1 1 := noti main_v47
  let main_v49 : IVec S4096x1 1 := ori main_v45 main_v48
  main_v49

def fn_part1 {F : FTy → Type} [FloatOps F] (main_v8 : FVec F S4096x8192 .f32) (main_v9 : FVec F S4096x1 .f32) (main_v10 : FVec F S4096x1 .f32) (main_v14 : FVec F S1x254 .f32) (main_v19 : IVec S4096x254 1) : IVec S4096x1 1 :=
  let main_cst_1 : FVec F S_ .f32 := constant S_ .f32 0x41B80000#32
  let main_v20 : FVec F S1x254 .f32 := broadcastInDim S1x254 ![] bcast_S_S1x254 main_cst_1
  let main_v21 : FVec F S1x254 .f32 := subf main_v14 main_v20
  let main_cst_2 : FVec F S_ .f32 := constant S_ .f32 0x40000000#32
  let main_v22 : FVec F S1x254 .f32 := broadcastInDim S1x254 ![] bcast_S_S1x254 main_cst_2
  let main_v23 : FVec F S1x254 .f32 := Host.powf main_v22 main_v21
  let main_cst_3 : FVec F S_ .f32 := constant S_ .f32 0x00000001#32
  let main_v24 : FVec F S4096x254 .f32 := fn_where (F := F) main_v19 main_v23 main_cst_3
  let main_cst_4 : FVec F S_ .f32 := constant S_ .f32 0xFF800000#32
  let main_v25 : FVec F S4096 .f32 := (fun x v => Host.reduce FloatOps.maximumf x v reducesTo_S4096x254_S4096_d1 h_S_) main_v24 main_cst_4
  let main_v26 : FVec F S4096x1 .f32 := broadcastInDim S4096x1 ![0] bcast_S4096_S4096x1_0 main_v25
  let main_v27 : FVec F S4096x1 .f32 := Host.divf main_v9 main_v26
  let main_v28 : FVec F S4096x1 .f32 := Host.floor main_v27
  let main_v29 : FVec F S4096x1 .f32 := mulf main_v28 main_v26
  let main_cst_5 : FVec F S_ .f32 := constant S_ .f32 0x7F7FFFFF#32
  let main_v30 : FVec F S4096x1 .f32 := broadcastInDim S4096x1 ![] bcast_S_S4096x1 main_cst_5
  let main_v31 : FVec F S4096x1 .f32 := minimumf main_v29 main_v30
  let main_v32 : FVec F S4096x8192 .f32 := broadcastInDim S4096x8192 ![0, 1] bcast_S4096x1_S4096x8192_0_1 main_v31
  let main_v33 : IVec S4096x8192 1 := cmpf .ogt main_v8 main_v32
  let main_v34 : FVec F S4096x1 .f32 := addf main_v31 main_v26
  let main_v35 : FVec F S4096x8192 .f32 := broadcastInDim S4096x8192 ![0, 1] bcast_S4096x1_S4096x8192_0_1 main_v34
  let main_v36 : IVec S4096x8192 1 := cmpf .olt main_v8 main_v35
  let main_cst_6 : FVec F S_ .f32 := constant S_ .f32 0x7F7FFFFF#32
  let main_v37 : FVec F S4096x1 .f32 := broadcastInDim S4096x1 ![] bcast_S_S4096x1 main_cst_6
  fn_part2 (F := F) main_v10 main_v31 main_v33 main_v36 main_v37

def fn {F : FTy → Type} [FloatOps F] (main_arg0 : FVec F S4096x1024 .f32) (main_arg1 : FVec F S8192x1024 .f32) (main_arg2 : FVec F S8192 .f32) (main_arg3 : FVec F S1024x8192 .f32) (main_arg4 : FVec F S1024 .f32) : IVec S4096x1 1 :=
  let main_v0 : FVec F S1x1024 .f32 := broadcastInDim S1x1024 ![1] bcast_S1024_S1x1024_1 main_arg4
  let main_v1 : FVec F S4096x1024 .f32 := broadcastInDim S4096x1024 ![0, 1] bcast_S1x1024_S4096x1024_0_1 main_v0
  let main_v2 : FVec F S4096x1024 .f32 := subf main_arg0 main_v1
  let main_v3 : FVec F S1024x8192 .f32 := (transpose S1024x8192 [1, 0] · transposes_S8192x1024_S1024x8192_1_0) main_arg1
  let main_v4 : FVec F S4096x8192 .f32 := (fun l r => Host.dotGeneral dot_S4096x1024_S1024x8192_S4096x8192_1_0_0_1_n_n none l r) main_v2 main_v3
  let main_v5 : FVec F S1x8192 .f32 := broadcastInDim S1x8192 ![1] bcast_S8192_S1x8192_1 main_arg2
  let main_v6 : FVec F S4096x8192 .f32 := broadcastInDim S4096x8192 ![0, 1] bcast_S1x8192_S4096x8192_0_1 main_v5
  let main_v7 : FVec F S4096x8192 .f32 := addf main_v4 main_v6
  let main_v8 : FVec F S4096x8192 .f32 := fn_relu (F := F) main_v7
  let main_values : FVec F S4096x65 .f32 := (fun x => (Host.topK S4096x65 1 (FloatOps.cmpfTotal .gt) x sliceFits_S4096x8192_S4096x65).1) main_v8
  let main_indices : IVec S4096x65 32 := (fun x => (Host.topK S4096x65 1 (FloatOps.cmpfTotal .gt) x sliceFits_S4096x8192_S4096x65).2) main_v8
  let main_v9 : FVec F S4096x1 .f32 := (extractStridedSlice S4096x1 ![0, 63] · slices_S4096x65_S4096x1_0_63) main_values
  let main_v10 : FVec F S4096x1 .f32 := (extractStridedSlice S4096x1 ![0, 64] · slices_S4096x65_S4096x1_0_64) main_values
  let main_v11 : FVec F S254 .f32 := sitofp .f32 (iotaInDim S254 32 0)
  let main_cst : FVec F S_ .f32 := constant S_ .f32 0xC2FC0000#32
  let main_v12 : FVec F S254 .f32 := broadcastInDim S254 ![] bcast_S_S254 main_cst
  let main_v13 : FVec F S254 .f32 := addf main_v12 main_v11
  let main_v14 : FVec F S1x254 .f32 := broadcastInDim S1x254 ![1] bcast_S254_S1x254_1 main_v13
  let main_cst_0 : FVec F S_ .f32 := constant S_ .f32 0x40000000#32
  let main_v15 : FVec F S1x254 .f32 := broadcastInDim S1x254 ![] bcast_S_S1x254 main_cst_0
  let main_v16 : FVec F S1x254 .f32 := Host.powf main_v15 main_v14
  let main_v17 : FVec F S4096x254 .f32 := broadcastInDim S4096x254 ![0, 1] bcast_S1x254_S4096x254_0_1 main_v16
  let main_v18 : FVec F S4096x254 .f32 := broadcastInDim S4096x254 ![0, 1] bcast_S4096x1_S4096x254_0_1 main_v9
  let main_v19 : IVec S4096x254 1 := cmpf .ole main_v17 main_v18
  fn_part1 (F := F) main_v8 main_v9 main_v10 main_v14 main_v19
-- ==== Kernel.lean ====
abbrev S4096x1024 : Shape := ⟨2, ![4096, 1024]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S1x8192 : Shape := ⟨2, ![1, 8192]⟩
abbrev S1x1024 : Shape := ⟨2, ![1, 1024]⟩
abbrev S4096x8192 : Shape := ⟨2, ![4096, 8192]⟩
abbrev S1024x512 : Shape := ⟨2, ![1024, 512]⟩
abbrev S1x512 : Shape := ⟨2, ![1, 512]⟩
abbrev S4096x512 : Shape := ⟨2, ![4096, 512]⟩
abbrev S256x8192 : Shape := ⟨2, ![256, 8192]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩
abbrev S512x8192 : Shape := ⟨2, ![512, 8192]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 18
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192, .f32⟩
  | .hbm, ⟨3, _⟩ => ⟨S1024x8192, .f32⟩
  | .hbm, ⟨4, _⟩ => ⟨S1024, .f32⟩
  | .hbm, ⟨5, _⟩ => ⟨S1024x8192, .f32⟩
  | .hbm, ⟨6, _⟩ => ⟨S1024x8192, .bf16⟩
  | .hbm, ⟨7, _⟩ => ⟨S8192x1024, .bf16⟩
  | .hbm, ⟨8, _⟩ => ⟨S1x8192, .f32⟩
  | .hbm, ⟨9, _⟩ => ⟨S1x1024, .f32⟩
  | .hbm, ⟨10, _⟩ => ⟨S4096x8192, .f32⟩
  | .hbm, ⟨11, _⟩ => ⟨S4096x8192, .f32⟩
  | .hbm, ⟨12, _⟩ => ⟨S4096x8192, .bf16⟩
  | .hbm, ⟨13, _⟩ => ⟨S4096x1024, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S_, .f32⟩
  | .local _ .vmem, ⟨0, _⟩ => ⟨S4096x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S1x1024, .f32⟩
  | .local _ .vmem, ⟨6, _⟩ => ⟨S4096x512, .f32⟩
  | .local _ .vmem, ⟨7, _⟩ => ⟨S4096x512, .f32⟩
  | .local _ .vmem, ⟨8, _⟩ => ⟨S256x8192, .f32⟩
  | .local _ .vmem, ⟨9, _⟩ => ⟨S256x8192, .f32⟩
  | .local _ .vmem, ⟨10, _⟩ => ⟨S256x8192, .f32⟩
  | .local _ .vmem, ⟨11, _⟩ => ⟨S256x8192, .f32⟩
  | .local _ .vmem, ⟨12, _⟩ => ⟨S256x8192, .bf16⟩
  | .local _ .vmem, ⟨13, _⟩ => ⟨S256x8192, .bf16⟩
  | .local _ .vmem, ⟨14, _⟩ => ⟨S512x8192, .bf16⟩
  | .local _ .vmem, ⟨15, _⟩ => ⟨S512x8192, .bf16⟩
  | .local _ .vmem, ⟨16, _⟩ => ⟨S8192x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1, .f32⟩
  | .local _ .vmem, ⟨23, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem6_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

@[reducible] def k1_t1_loop : Scf.Loop 32 :=
  let c0_i32_2 : BitVec 32 := 0#32
  let c31_i32 : BitVec 32 := 31#32
  let v6 : BitVec 32 := Scalar.addi c0_i32_2 c31_i32
  let c1_i32 : BitVec 32 := 1#32
  ⟨c0_i32_2, v6, c1_i32⟩
@[reducible] def k1_t2_loop : Scf.Loop 32 :=
  let c0_i32_15 : BitVec 32 := 0#32
  let c13_i32 : BitVec 32 := 13#32
  let v39 : BitVec 32 := Scalar.addi c0_i32_15 c13_i32
  let c1_i32_16 : BitVec 32 := 1#32
  ⟨c0_i32_15, v39, c1_i32_16⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k2_cond2 (i : grid2.Coords) : BitVec 1 :=
  let arg0 : BitVec 32 := BitVec.ofNat 32 (i 0).val
  let c0_i32_11 : BitVec 32 := 0#32
  let v21 : BitVec 1 := Scalar.cmpi .ne arg0 c0_i32_11
  let v22 : BitVec 32 := Scalar.extui v21
  let c0_i32_12 : BitVec 32 := 0#32
  let v23 : BitVec 1 := Scalar.cmpi .ne v22 c0_i32_12
  v23

def k2_cond3 (i : grid2.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_13 : BitVec 32 := 0#32
  let v26 : BitVec 1 := Scalar.cmpi .ne v25 c0_i32_13
  v26

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== ReferenceIdeal.lean ====
abbrev S4096x1024 : Shape := ⟨2, ![4096, 1024]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S1x1024 : Shape := ⟨2, ![1, 1024]⟩
abbrev S4096x8192 : Shape := ⟨2, ![4096, 8192]⟩
abbrev S1x8192 : Shape := ⟨2, ![1, 8192]⟩
abbrev S_ : Shape := ⟨0, ![]⟩
abbrev S4096x64 : Shape := ⟨2, ![4096, 64]⟩
abbrev S4096 : Shape := ⟨1, ![4096]⟩
abbrev S4096x1 : Shape := ⟨2, ![4096, 1]⟩
abbrev S4096x64x1 : Shape := ⟨3, ![4096, 64, 1]⟩
abbrev S4096x64x2 : Shape := ⟨3, ![4096, 64, 2]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192, .f32⟩
  | .hbm, ⟨3, _⟩ => ⟨S1024x8192, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1024x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x64, .f32⟩
  | .hbm, ⟨17, _⟩ => ⟨S4096x64, .i32⟩
  | .hbm, ⟨18, _⟩ => ⟨S4096, .i32⟩
  | .hbm, ⟨19, _⟩ => ⟨S4096x1, .i32⟩
  | .hbm, ⟨20, _⟩ => ⟨S_, .f32⟩
  | .hbm, ⟨21, _⟩ => ⟨S4096x8192, .f32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S_, .i32⟩
  | .hbm, ⟨30, _⟩ => ⟨S4096x64, .i32⟩
  | .hbm, ⟨31, _⟩ => ⟨S4096x64, .i1⟩
  | .hbm, ⟨32, _⟩ => ⟨S_, .i32⟩
  | .hbm, ⟨33, _⟩ => ⟨S4096x64, .i32⟩
  | .hbm, ⟨34, _⟩ => ⟨S4096x64, .i32⟩
  | .hbm, ⟨35, _⟩ => ⟨S4096x64, .i32⟩
  | .hbm, ⟨36, _⟩ => ⟨S4096x64, .i32⟩
  | .hbm, ⟨37, _⟩ => ⟨S4096x64x1, .i32⟩
  | .hbm, ⟨38, _⟩ => ⟨S4096x64x1, .i32⟩
  | .hbm, ⟨39, _⟩ => ⟨S4096x64x2, .i32⟩
  | .hbm, ⟨40, _⟩ => ⟨S4096x8192, .f32⟩
  | .hbm, ⟨41, _⟩ => ⟨S8192x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S_, .f32⟩
  | .hbm, ⟨50, _⟩ => ⟨S4096x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_values : Ref sig .tc := ⟨.hbm, 16, rfl⟩
abbrev main_indices : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Encode.lean ====
/- The first kernel call (encoding): what one grid point leaves in the output block, and the body
   obligation of its pipeline, at any contents of the buffers at entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Own

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S4096x1024 := Rect.unit (s := S4096x1024) ![0, 0] S4096x1024.size inb_S4096x1024_S4096x1024_0_0
abbrev rd0 : Rect S1x1024 := Rect.unit (s := S1x1024) ![0, 0] S1x1024.size inb_S1x1024_S1x1024_0_0
abbrev rw0 : Rect S1024x512 := Rect.unit (s := S1024x512) ![0, 0] S1024x512.size inb_S1024x512_S1024x512_0_0
abbrev re0 : Rect S1x512 := Rect.unit (s := S1x512) ![0, 0] S1x512.size inb_S1x512_S1x512_0_0
abbrev ro0 : Rect S4096x512 := Rect.unit (s := S4096x512) ![0, 0] S4096x512.size inb_S4096x512_S4096x512_0_0

/-- The block of activations one point computes: the payload of its one store, at the four blocks read. -/
def encOut (x0 : Vec F S4096x1024 .f32) (x1 : Vec F S1024x512 .f32) (x2 : Vec F S1x512 .f32) (x3 : Vec F S1x1024 .f32) : Vec F S4096x512 .f32 :=
  k0_pay1 x0 x3 x1 x2

/-- The one store covers the output block. -/
theorem encCover (p0 : Vec F S4096x512 .f32) (y : S4096x512.Idx) :
    ∃ pc ∈ ([⟨ro0, p0⟩] : List (View.Piece (Elt F) S4096x512 .f32)), y ∈ pc.1.set :=
  View.cover_of_tiled [⟨ro0, p0⟩] S4096x512.size (by rfl) y

/-- The list of that one store, with the loads it was computed from, is `encOut` of the blocks. -/
theorem encCanon (x0 : Vec F S4096x1024 .f32) (x1 : Vec F S1024x512 .f32) (x2 : Vec F S1x512 .f32) (x3 : Vec F S1x1024 .f32) :
    View.canon ([⟨ro0, k0_pay1 (View.ld x0 rx0) (View.ld x3 rd0) (View.ld x1 rw0) (View.ld x2 re0)⟩] : List (View.Piece (Elt F) S4096x512 .f32))
      = encOut x0 x1 x2 x3 := by
  rw [View.canon_unit_zero (by decide), View.ld_unit_lit _ x0 (by decide), View.ld_unit_lit _ x3 (by decide),
    View.ld_unit_lit _ x1 (by decide), View.ld_unit_lit _ x2 (by decide)]
  rfl

set_option maxHeartbeats 1000000 in
/-- The body on whole staging buffers: the inputs' are kept and the output's holds `encOut` of them. -/
theorem sound_kernel0 (c : Dev nD) (E : Set ℕ) (i : grid0.Coords) (arg1 : Memref sig .tc .vmem S4096x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x1024 .f32) (harg4 : arg4.IsWhole) (arg5 : Memref sig .tc .vmem S4096x512 .f32) (harg5 : arg5.IsWhole)
    (x0 : Vec F S4096x1024 .f32) (x1 : Vec F S1024x512 .f32) (x2 : Vec F S1x512 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (encOut x0 x1 x2 x3)) -∗ K ⟨⟩))
      ⊢ wp frame (wpE (defs₀ (F := F)) Variants.none c none) E (cc0__encode_body i arg1 harg1 arg2 harg2 arg3 harg3 arg4 harg4 arg5 harg5) K := by
  simp only [cc0__encode_body_eq_skeleton]; unfold cc0__encode_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (encCover _)).trans (encCanon _ _ _ _)

/-- The proof data of the encoding pipeline: arrays as found; every input left in place; the output block `encOut`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => encOut (iblk0 V c 0 t) (iblk0 V c 1 t) (iblk0 V c 2 t) (iblk0 V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = encOut (iblk0 V c 0 t) (iblk0 V c 1 t) (iblk0 V c 2 t) (iblk0 V c 3 t) := by dsimp only [dat0]

/-- An input's buffer that the body leaves in place holds the input's block at every point, given that the window
    is a plain uncut input (`fetched_eq`, `before_eq` are the library's two steps). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; try rfl)

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The row of the body table at point `t` is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The encoding pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.Select.lean ====
/- The second kernel call (selection): its two loops as folds, what one grid point leaves in the two
   output blocks, and the body obligation of its pipeline, at any contents of the buffers at entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Own

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the threshold bisection carries: lower and upper bit pattern of every row, and the counts at the two. -/
abbrev SelSt (F : FTy → Type) : Type := IVec S256x1 32 × IVec S256x1 32 × FVec F S256x1 .f32 × FVec F S256x1 .f32

/-- One trip of the threshold bisection. -/
def selStep (v0 : Vec F S256x8192 .f32) (a : SelSt F) : SelSt F :=
  (k1_pay9 v0 a.1 a.2.1, k1_pay10 v0 a.1 a.2.1, k1_pay11 v0 a.1 a.2.1 a.2.2.1, k1_pay12 v0 a.1 a.2.1 a.2.2.2)

/-- The state the threshold bisection ends with. -/
def selState (v0 : Vec F S256x8192 .f32) : SelSt F :=
  Scf.fold (n := k1_t1_loop.trips) (fun _ a => selStep v0 a) (k1_pay2, k1_pay3, k1_pay4 (F := F), k1_pay5 (F := F))

/-- Whether some row of the block needs its ties resolved. -/
def selFlag (v0 : Vec F S256x8192 .f32) : BitVec 1 :=
  Scalar.cmpi .ne (Scalar.extui (Scalar.xori
    (Scalar.cmpf .ogt (k1_pay17 (selState v0).1 (selState v0).2.2.1 (selState v0).2.2.2) (Scalar.ofBits (F := F) .f32 0x00000000#32)) 1#1) : BitVec 32) 0#32

/-- One trip of the bisection over tie positions. -/
def cutStep (v0 : Vec F S256x8192 .f32) (lo : IVec S256x1 32) (n : FVec F S256x1 .f32) (a : IVec S256x1 32 × IVec S256x1 32) :
    IVec S256x1 32 × IVec S256x1 32 :=
  (k1_pay24 v0 lo n a.1 a.2, k1_pay23 v0 lo n a.1 a.2)

/-- The state the bisection over tie positions ends with. -/
def cutState (v0 : Vec F S256x8192 .f32) : IVec S256x1 32 × IVec S256x1 32 :=
  Scf.fold (n := k1_t2_loop.trips) (fun _ a => cutStep v0 (selState v0).1 (selState v0).2.2.2 a) (k1_pay19, k1_pay20)

/-- The block of kept activations (single precision) one point leaves. -/
def selOut (v0 : Vec F S256x8192 .f32) : Vec F S256x8192 .f32 :=
  if selFlag v0 = 1#1 then k1_pay25 v0 (selState v0).1 (cutState v0).2 else k1_pay15 v0 (selState v0).1

/-- The block of kept activations (half precision) one point leaves. -/
def selOut16 (v0 : Vec F S256x8192 .f32) : Vec F S256x8192 .bf16 :=
  if selFlag v0 = 1#1 then k1_pay26 v0 (selState v0).1 (cutState v0).2 else k1_pay16 v0 (selState v0).1

abbrev rs1 : Rect S256x8192 := Rect.unit (s := S256x8192) ![0, 0] S256x8192.size inb_S256x8192_S256x8192_0_0

/-- The selection body with its loops replaced by the folds they compute. -/
def selProg (arg1 : Memref sig .tc .vmem S256x8192 .f32) (arg2 : Memref sig .tc .vmem S256x8192 .f32) (arg3 : Memref sig .tc .vmem S256x8192 .bf16) (harg3 : arg3.IsWhole) :
    Prog (TpuEff nD τ sig (Elt F) Λ₀ .tc) PUnit := do
  let v0 : Vec F S256x8192 .f32 ← Prog.lift (.load arg1 rs1.toLoadRect (View.loadsAt_vmem h_S256x8192))
  let _ : Vec F S256x8192 .f32 ← Prog.lift (.load arg2 rs1.toLoadRect (View.loadsAt_vmem h_S256x8192))
  Prog.lift (.store arg2 rs1 (k1_pay15 v0 (selState v0).1) Finset.univ (View.stores_vmem_bits_univ h_S256x8192 rfl) (.inl rfl))
  let _ : Vec F S256x8192 .bf16 ← Prog.lift (.load arg3 rs1.toLoadRect (View.loadsAt_vmem h_S256x8192))
  Prog.lift (.store arg3 rs1 (k1_pay16 v0 (selState v0).1) Finset.univ (View.stores_vmem h_S256x8192 (harg3.storeExact_slice rfl _ packedbf16_S256x8192_S256x8192_0_0) (fun _ => rfl)) (.inl rfl))
  if selFlag v0 = 1#1 then do
    let _ : Vec F S256x8192 .f32 ← Prog.lift (.load arg2 rs1.toLoadRect (View.loadsAt_vmem h_S256x8192))
    Prog.lift (.store arg2 rs1 (k1_pay25 v0 (selState v0).1 (cutState v0).2) Finset.univ (View.stores_vmem_bits_univ h_S256x8192 rfl) (.inl rfl))
    let _ : Vec F S256x8192 .bf16 ← Prog.lift (.load arg3 rs1.toLoadRect (View.loadsAt_vmem h_S256x8192))
    Prog.lift (.store arg3 rs1 (k1_pay26 v0 (selState v0).1 (cutState v0).2) Finset.univ (View.stores_vmem h_S256x8192 (harg3.storeExact_slice rfl _ packedbf16_S256x8192_S256x8192_0_0) (fun _ => rfl)) (.inl rfl))
    pure ⟨⟩
  else pure ⟨⟩

/-- The printed selection body is that program. -/
theorem select_eq_selProg (i : grid1.Coords) (arg1 : Memref sig .tc .vmem S256x8192 .f32) (harg1 : arg1.IsWhole) (arg2 : Memref sig .tc .vmem S256x8192 .f32) (harg2 : arg2.IsWhole) (arg3 : Memref sig .tc .vmem S256x8192 .bf16) (harg3 : arg3.IsWhole) :
    cc1__select_body (F := F) i arg1 harg1 arg2 harg2 arg3 harg3 = selProg arg1 arg2 arg3 harg3 := by
  rw [cc1__select_body_eq_skeleton]; unfold cc1__select_body_skel
  rw [k1_part1_eq_skeleton]; unfold k1_part1_skel selProg
  unfold Scf.Loop.for
  have h1 : ∀ v0 : Vec F S256x8192 .f32, Scf.for (E := TpuEff nD τ sig (Elt F) Λ₀ .tc) k1_t1_loop.lb k1_t1_loop.ub k1_t1_loop.st k1_t1_ok
      (k1_pay2, k1_pay3, k1_pay4 (F := F), k1_pay5 (F := F)) (k1_t1_body i arg1 harg1 arg2 harg2 arg3 harg3 v0) = .ret (selState v0) :=
    fun v0 => Scf.for_pure _ _ _ _ _ _ (fun _ a => selStep v0 a) (fun _ _ => rfl)
  have h2 : ∀ v0 : Vec F S256x8192 .f32, Scf.for (E := TpuEff nD τ sig (Elt F) Λ₀ .tc) k1_t2_loop.lb k1_t2_loop.ub k1_t2_loop.st k1_t2_ok
      (k1_pay19, k1_pay20) (k1_t2_body i arg1 harg1 arg2 harg2 arg3 harg3 v0 (selState v0).1 (selState v0).2.2.2) = .ret (cutState v0) :=
    fun v0 => Scf.for_pure _ _ _ _ _ _ (fun _ a => cutStep v0 (selState v0).1 (selState v0).2.2.2 a) (fun _ _ => rfl)
  simp only [bind_assoc, pure_bind]
  congr 1
  funext v0
  refine (congrArg (· >>= _) (h1 v0)).trans ((pure_bind (selState v0) _).trans ?_)
  congr 1; funext _; congr 1; funext _; congr 1; funext _; congr 1; funext _
  by_cases hf : selFlag v0 = 1#1
  · refine (congrArg (· >>= _) ((if_pos hf).trans (congrArg (· >>= _) (h2 v0)))).trans ?_
    rw [if_pos hf]
    rfl
  · refine (congrArg (· >>= _) (if_neg hf)).trans ?_
    rw [if_neg hf]
    rfl

/-- A whole-block store, laid over an earlier one of the same block, covers the block. -/
theorem selCover {e : EltTy} (p0 : Vec F S256x8192 e) (L : List (View.Piece (Elt F) S256x8192 e)) (y : S256x8192.Idx) :
    ∃ pc ∈ ((⟨rs1, p0⟩ : View.Piece (Elt F) S256x8192 e) :: L), y ∈ pc.1.set :=
  ⟨_, List.mem_cons_self, View.mem_set_unit_zero (by decide) inb_S256x8192_S256x8192_0_0 y⟩

/-- Reading back after such stores gives the last payload. -/
theorem selRead {e : EltTy} (v : View sig .tc .vmem S256x8192 e) (f : v.ty.Contents (Elt F)) (p0 : Vec F S256x8192 e)
    (L : List (View.Piece (Elt F) S256x8192 e)) :
    v.read (Elt F) (v.writes (Elt F) f ((⟨rs1, p0⟩ : View.Piece (Elt F) S256x8192 e) :: L)) = p0 :=
  (View.read_writes_eq_canon _ _ _ (selCover _ _)).trans (View.canon_cons_unit_zero (by decide) _ _ _)

set_option maxHeartbeats 1000000 in
/-- The body on whole staging buffers: the input's is kept and the outputs' hold `selOut` and `selOut16` of it. -/
theorem sound_kernel1 (c : Dev nD) (E : Set ℕ) (i : grid1.Coords) (arg1 : Memref sig .tc .vmem S256x8192 .f32) (harg1 : arg1.IsWhole) (arg2 : Memref sig .tc .vmem S256x8192 .f32) (harg2 : arg2.IsWhole) (arg3 : Memref sig .tc .vmem S256x8192 .bf16) (harg3 : arg3.IsWhole)
    (x0 : Vec F S256x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (selOut x0) ∗ owns (c : Thread nD τ) arg3 fullShare (selOut16 x0)) -∗ K ⟨⟩))
      ⊢ wp frame (wpE (defs₀ (F := F)) Variants.none c none) E (cc1__select_body i arg1 harg1 arg2 harg2 arg3 harg3) K := by
  rw [select_eq_selProg]; unfold selProg
  unfold owns
  iintro ⟨⟨%f0, %hf0, H0⟩, ⟨%d1, %f1, -, H1⟩, ⟨%d2, %f2, -, H2⟩, Hk⟩
  have hx : arg1.view.readAt (Elt F) rs1.toLoadRect f0 = x0 := by
    subst hf0
    exact View.ld_unit_zero (by decide) _ _
  by_cases hf : selFlag x0 = 1#1
  · have hf' : selFlag (arg1.view.readAt (Elt F) rs1.toLoadRect f0) = 1#1 := by rw [hx]; exact hf
    sl_exec (disch := sl_exact hf')
    sl_step
    iapply Hk
    isplitl [H0]
    · iexists f0; isplitr; · ipureintro; exact hf0
      iexact H0
    isplitl [H1]
    · iexists _; isplitr
      swap; · iexact H1
      ipureintro
      refine (selRead _ _ _ _).trans ?_
      unfold selOut; rw [if_pos hf]
    iexists _; isplitr
    swap; · iexact H2
    ipureintro
    refine (selRead _ _ _ _).trans ?_
    unfold selOut16; rw [if_pos hf]
  · have hf' : ¬ selFlag (arg1.view.readAt (Elt F) rs1.toLoadRect f0) = 1#1 := by rw [hx]; exact hf
    sl_exec (disch := sl_exact hf')
    sl_step
    iapply Hk
    isplitl [H0]
    · iexists f0; isplitr; · ipureintro; exact hf0
      iexact H0
    isplitl [H1]
    · iexists _; isplitr
      swap; · iexact H1
      ipureintro
      refine (selRead _ _ _ _).trans ?_
      unfold selOut; rw [if_neg hf]
    iexists _; isplitr
    swap; · iexact H2
    ipureintro
    refine (selRead _ _ _ _).trans ?_
    unfold selOut16; rw [if_neg hf]

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the selection pipeline: arrays as found; the input left in place; the outputs as computed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => selOut (iblk1 V c 0 t)
    | ⟨2, _⟩ => selOut16 (iblk1 V c 0 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = selOut (iblk1 V c 0 t) := by dsimp only [dat1]
theorem after1_2 (c : Dev nD) (t : Fin cfg1.N) : (dat1 V c).after 2 t = selOut16 (iblk1 V c 0 t) := by dsimp only [dat1]

/-- The input's buffer holds the input's block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; try rfl)

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point of the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The row of the body table at point `t` is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The selection pipeline's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.Decode.lean ====
/- The third kernel call (decoding): what one grid point leaves in the three output blocks, the running total
   over the points, and the body obligation of its pipeline, at any contents of the buffers at entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Own

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, from the grid coordinates: first point, not the first point, last point. -/
abbrev cond2_0 (i : grid2.Coords) : Prop := k2_cond1 i = 1#1
abbrev cond2_1 (i : grid2.Coords) : Prop := k2_cond2 i = 1#1
abbrev cond2_2 (i : grid2.Coords) : Prop := k2_cond3 i = 1#1

/-- The grid coordinate of a point is its number. -/
theorem coord2 (t : Fin grid2.N) : (grid2.coords t 0).val = t.val / 1 % 8 := Pipeline.Grid.coords_val t 0 (by decide) rfl

/-- The first condition holds at the first point only, -/
theorem hcond2_0 (t : Fin grid2.N) : cond2_0 (grid2.coords t) ↔ t.val = 0 := by
  have ht : t.val < 8 := Nat.lt_of_lt_of_eq t.isLt N_2
  have e0 := coord2 t
  simp only [cond2_0, k2_cond1, e0]
  word_cmp

/-- the second at every other point, -/
theorem hcond2_1 (t : Fin grid2.N) : cond2_1 (grid2.coords t) ↔ t.val ≠ 0 := by
  have ht : t.val < 8 := Nat.lt_of_lt_of_eq t.isLt N_2
  have e0 := coord2 t
  simp only [cond2_1, k2_cond2, e0]
  word_cmp

/-- the third at the last point only. -/
theorem hcond2_2 (t : Fin grid2.N) : cond2_2 (grid2.coords t) ↔ t.val = 7 := by
  have ht : t.val < 8 := Nat.lt_of_lt_of_eq t.isLt N_2
  have e0 := coord2 t
  simp only [cond2_2, k2_cond3, e0]
  word_cmp

/-- The block of the reconstruction one point computes. -/
def decOut (x0 : Vec F S512x8192 .bf16) (x1 : Vec F S8192x1024 .bf16) (x3 : Vec F S1x1024 .f32) : Vec F S512x1024 .f32 :=
  k2_pay1 x0 x1 x3

/-- The part of the squared error one point computes. -/
def decPart (x0 : Vec F S512x8192 .bf16) (x1 : Vec F S8192x1024 .bf16) (x2 : Vec F S512x1024 .f32) (x3 : Vec F S1x1024 .f32) : Vec F S1x1 .f32 :=
  k2_pay2 x0 x1 x3 x2

/-- A total with the point's part added. -/
def decAdd (x0 : Vec F S512x8192 .bf16) (x1 : Vec F S8192x1024 .bf16) (x2 : Vec F S512x1024 .f32) (x3 : Vec F S1x1024 .f32) (a : Vec F S1x1 .f32) : Vec F S1x1 .f32 :=
  k2_pay3 x0 x1 x3 x2 a

theorem hz : (![0, 0] : Fin 2 → ℕ) = fun _ => 0 := by decide

/-- Reading a buffer back after stores of which the last is of the whole buffer gives its payload. -/
theorem readTop {S : Shape} {e : EltTy} (v : View sig .tc .vmem S e) (f : v.ty.Contents (Elt F)) {off : Fin S.rank → ℕ} (h : off = fun _ => 0)
    (inb : ∀ a, off a + S.size a ≤ S.size a) (p0 : Vec F S e) (L : List (View.Piece (Elt F) S e)) :
    v.read (Elt F) (v.writes (Elt F) f ((⟨Rect.unit off S.size inb, p0⟩ : View.Piece (Elt F) S e) :: L)) = p0 :=
  (View.read_writes_eq_canon _ _ _ (fun y => ⟨_, List.mem_cons_self, View.mem_set_unit_zero h inb y⟩)).trans (View.canon_cons_unit_zero h _ _ _)

/-- Loading a whole buffer gives what it holds. -/
theorem ldTop {S : Shape} {e : EltTy} (v : View sig .tc .vmem S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := View.ld_unit_zero h inb _

theorem decOutLd (v0 : View sig .tc .vmem S512x8192 .bf16) (v1 : View sig .tc .vmem S8192x1024 .bf16) (v3 : View sig .tc .vmem S1x1024 .f32)
    (f0 : v0.ty.Contents (Elt F)) (f1 : v1.ty.Contents (Elt F)) (f3 : v3.ty.Contents (Elt F)) :
    k2_pay1 (v0.readAt (Elt F) (Rect.unit (s := S512x8192) ![0, 0] S512x8192.size inb_S512x8192_S512x8192_0_0).toLoadRect f0)
      (v1.readAt (Elt F) (Rect.unit (s := S8192x1024) ![0, 0] S8192x1024.size inb_S8192x1024_S8192x1024_0_0).toLoadRect f1)
      (v3.readAt (Elt F) (Rect.unit (s := S1x1024) ![0, 0] S1x1024.size inb_S1x1024_S1x1024_0_0).toLoadRect f3)
      = decOut (v0.read (Elt F) f0) (v1.read (Elt F) f1) (v3.read (Elt F) f3) := by
  rw [ldTop v0 f0 hz, ldTop v1 f1 hz, ldTop v3 f3 hz]; rfl

theorem decPartLd (v0 : View sig .tc .vmem S512x8192 .bf16) (v1 : View sig .tc .vmem S8192x1024 .bf16) (v2 : View sig .tc .vmem S512x1024 .f32) (v3 : View sig .tc .vmem S1x1024 .f32)
    (f0 : v0.ty.Contents (Elt F)) (f1 : v1.ty.Contents (Elt F)) (f2 : v2.ty.Contents (Elt F)) (f3 : v3.ty.Contents (Elt F)) :
    k2_pay2 (v0.readAt (Elt F) (Rect.unit (s := S512x8192) ![0, 0] S512x8192.size inb_S512x8192_S512x8192_0_0).toLoadRect f0)
      (v1.readAt (Elt F) (Rect.unit (s := S8192x1024) ![0, 0] S8192x1024.size inb_S8192x1024_S8192x1024_0_0).toLoadRect f1)
      (v3.readAt (Elt F) (Rect.unit (s := S1x1024) ![0, 0] S1x1024.size inb_S1x1024_S1x1024_0_0).toLoadRect f3)
      (v2.readAt (Elt F) (Rect.unit (s := S512x1024) ![0, 0] S512x1024.size inb_S512x1024_S512x1024_0_0).toLoadRect f2)
      = decPart (v0.read (Elt F) f0) (v1.read (Elt F) f1) (v2.read (Elt F) f2) (v3.read (Elt F) f3) := by
  rw [ldTop v0 f0 hz, ldTop v1 f1 hz, ldTop v2 f2 hz, ldTop v3 f3 hz]; rfl

theorem decAddLd (v0 : View sig .tc .vmem S512x8192 .bf16) (v1 : View sig .tc .vmem S8192x1024 .bf16) (v2 : View sig .tc .vmem S512x1024 .f32) (v3 : View sig .tc .vmem S1x1024 .f32)
    (f0 : v0.ty.Contents (Elt F)) (f1 : v1.ty.Contents (Elt F)) (f2 : v2.ty.Contents (Elt F)) (f3 : v3.ty.Contents (Elt F)) (v5 : View sig .tc .vmem S1x1 .f32) (f5 : v5.ty.Contents (Elt F)) :
    k2_pay3 (v0.readAt (Elt F) (Rect.unit (s := S512x8192) ![0, 0] S512x8192.size inb_S512x8192_S512x8192_0_0).toLoadRect f0)
      (v1.readAt (Elt F) (Rect.unit (s := S8192x1024) ![0, 0] S8192x1024.size inb_S8192x1024_S8192x1024_0_0).toLoadRect f1)
      (v3.readAt (Elt F) (Rect.unit (s := S1x1024) ![0, 0] S1x1024.size inb_S1x1024_S1x1024_0_0).toLoadRect f3)
      (v2.readAt (Elt F) (Rect.unit (s := S512x1024) ![0, 0] S512x1024.size inb_S512x1024_S512x1024_0_0).toLoadRect f2)
      (v5.readAt (Elt F) (Rect.unit (s := S1x1) ![0, 0] S1x1.size inb_S1x1_S1x1_0_0).toLoadRect f5)
      = decAdd (v0.read (Elt F) f0) (v1.read (Elt F) f1) (v2.read (Elt F) f2) (v3.read (Elt F) f3) (v5.read (Elt F) f5) := by
  rw [ldTop v0 f0 hz, ldTop v1 f1 hz, ldTop v2 f2 hz, ldTop v3 f3 hz, ldTop v5 f5 hz]; rfl

set_option maxHeartbeats 1000000 in
/-- The body at the first point: the running total is started. -/
theorem sound_kernel2_A (c : Dev nD) (E : Set ℕ) (i : grid2.Coords) (arg1 : Memref sig .tc .vmem S512x8192 .bf16) (harg1 : arg1.IsWhole) (arg2 : Memref sig .tc .vmem S8192x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole)
    (hc0 : cond2_0 i) (hc1 : ¬cond2_1 i) (hc2 : ¬cond2_2 i)
    (x0 : Vec F S512x8192 .bf16) (x1 : Vec F S8192x1024 .bf16) (x2 : Vec F S512x1024 .f32) (x3 : Vec F S1x1024 .f32) (x5 x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (decOut x0 x1 x3) ∗ owns (c : Thread nD τ) arg6 fullShare (decPart x0 x1 x2 x3) ∗ owns (c : Thread nD τ) arg7 fullShare x6) -∗ K ⟨⟩))
      ⊢ wp frame (wpE (defs₀ (F := F)) Variants.none c none) E (cc2__decode_body i arg1 harg1 arg2 harg2 arg3 harg3 arg4 harg4 arg5 harg5 arg6 harg6 arg7 harg7) K := by
  simp only [cc2__decode_body_eq_skeleton]; unfold cc2__decode_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (readTop _ _ hz inb_S512x1024_S512x1024_0_0 _ _).trans (decOutLd arg1.view arg2.view arg4.view f0 f1 f3)

  isplitl [H5]
  · iexists _; isplitr
    swap; · iexact H5
    ipureintro
    exact (readTop _ _ hz inb_S1x1_S1x1_0_0 _ _).trans (decPartLd arg1.view arg2.view arg3.view arg4.view f0 f1 f2 f3)
  iexists _; isplitr
  swap; · iexact H6
  ipureintro
  rfl

set_option maxHeartbeats 1000000 in
/-- The body at a middle point: the block's part is added to the running total. -/
theorem sound_kernel2_B (c : Dev nD) (E : Set ℕ) (i : grid2.Coords) (arg1 : Memref sig .tc .vmem S512x8192 .bf16) (harg1 : arg1.IsWhole) (arg2 : Memref sig .tc .vmem S8192x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole)
    (hc0 : ¬cond2_0 i) (hc1 : cond2_1 i) (hc2 : ¬cond2_2 i)
    (x0 : Vec F S512x8192 .bf16) (x1 : Vec F S8192x1024 .bf16) (x2 : Vec F S512x1024 .f32) (x3 : Vec F S1x1024 .f32) (x5 x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (decOut x0 x1 x3) ∗ owns (c : Thread nD τ) arg6 fullShare (decAdd x0 x1 x2 x3 x5) ∗ owns (c : Thread nD τ) arg7 fullShare x6) -∗ K ⟨⟩))
      ⊢ wp frame (wpE (defs₀ (F := F)) Variants.none c none) E (cc2__decode_body i arg1 harg1 arg2 harg2 arg3 harg3 arg4 harg4 arg5 harg5 arg6 harg6 arg7 harg7) K := by
  simp only [cc2__decode_body_eq_skeleton]; unfold cc2__decode_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (readTop _ _ hz inb_S512x1024_S512x1024_0_0 _ _).trans (decOutLd arg1.view arg2.view arg4.view f0 f1 f3)

  isplitl [H5]
  · iexists _; isplitr
    swap; · iexact H5
    ipureintro
    exact (readTop _ _ hz inb_S1x1_S1x1_0_0 _ _).trans (decAddLd arg1.view arg2.view arg3.view arg4.view f0 f1 f2 f3 arg6.view f5)
  iexists _; isplitr
  swap; · iexact H6
  ipureintro
  rfl

set_option maxHeartbeats 1000000 in
/-- The body at the last point: the total is completed and scaled. -/
theorem sound_kernel2_C (c : Dev nD) (E : Set ℕ) (i : grid2.Coords) (arg1 : Memref sig .tc .vmem S512x8192 .bf16) (harg1 : arg1.IsWhole) (arg2 : Memref sig .tc .vmem S8192x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole)
    (hc0 : ¬cond2_0 i) (hc1 : cond2_1 i) (hc2 : cond2_2 i)
    (x0 : Vec F S512x8192 .bf16) (x1 : Vec F S8192x1024 .bf16) (x2 : Vec F S512x1024 .f32) (x3 : Vec F S1x1024 .f32) (x5 x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (decOut x0 x1 x3) ∗ owns (c : Thread nD τ) arg6 fullShare (decAdd x0 x1 x2 x3 x5) ∗ owns (c : Thread nD τ) arg7 fullShare (k2_pay4 (decAdd x0 x1 x2 x3 x5))) -∗ K ⟨⟩))
      ⊢ wp frame (wpE (defs₀ (F := F)) Variants.none c none) E (cc2__decode_body i arg1 harg1 arg2 harg2 arg3 harg3 arg4 harg4 arg5 harg5 arg6 harg6 arg7 harg7) K := by
  simp only [cc2__decode_body_eq_skeleton]; unfold cc2__decode_body_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (readTop _ _ hz inb_S512x1024_S512x1024_0_0 _ _).trans (decOutLd arg1.view arg2.view arg4.view f0 f1 f3)

  isplitl [H5]
  · iexists _; isplitr
    swap; · iexact H5
    ipureintro
    exact (readTop _ _ hz inb_S1x1_S1x1_0_0 _ _).trans (decAddLd arg1.view arg2.view arg3.view arg4.view f0 f1 f2 f3 arg6.view f5)
  iexists _; isplitr
  swap; · iexact H6
  ipureintro
  refine (readTop _ _ hz inb_S1x1_S1x1_0_0 _ _).trans (congrArg k2_pay4 ?_)
  exact (View.readCov_unit_zero arg6.view hz inb_S1x1_S1x1_0_0 _).trans (decAddLd arg1.view arg2.view arg3.view arg4.view f0 f1 f2 f3 arg6.view f5)

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running total of the squared error after point `n`. -/
def total (c : Dev nD) : (n : ℕ) → n < cfg2.N → Vec F S1x1 .f32
  | 0, hn => decPart (iblk2 V c 0 ⟨0, hn⟩) (iblk2 V c 1 ⟨0, hn⟩) (iblk2 V c 2 ⟨0, hn⟩) (iblk2 V c 3 ⟨0, hn⟩)
  | n + 1, hn => decAdd (iblk2 V c 0 ⟨n + 1, hn⟩) (iblk2 V c 1 ⟨n + 1, hn⟩) (iblk2 V c 2 ⟨n + 1, hn⟩) (iblk2 V c 3 ⟨n + 1, hn⟩)
      (total c n (Nat.lt_of_succ_lt hn))

/-- The total at the first point, -/
theorem total_first (c : Dev nD) (t : Fin cfg2.N) (h : t.val = 0) :
    total V c t.val t.isLt = decPart (iblk2 V c 0 t) (iblk2 V c 1 t) (iblk2 V c 2 t) (iblk2 V c 3 t) := by
  obtain ⟨n, hn⟩ := t
  dsimp only at h
  subst h; rfl

/-- and at a later one, over the point before. -/
theorem total_later (c : Dev nD) (t : Fin cfg2.N) (h : t.val ≠ 0) :
    total V c t.val t.isLt = decAdd (iblk2 V c 0 t) (iblk2 V c 1 t) (iblk2 V c 2 t) (iblk2 V c 3 t)
      (total V c (t.val - 1) (Nat.lt_of_le_of_lt (Nat.sub_le _ _) t.isLt)) := by
  obtain ⟨n, hn⟩ := t
  cases n with
  | zero => exact absurd rfl h
  | succ n => rfl

/-- The proof data of the decoding pipeline: arrays as found; the inputs left in place; the outputs as computed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => decOut (iblk2 V c 0 t) (iblk2 V c 1 t) (iblk2 V c 3 t)
    | ⟨5, _⟩ => total V c t.val t.isLt
    | ⟨6, _⟩ => k2_pay4 (total V c t.val t.isLt)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = decOut (iblk2 V c 0 t) (iblk2 V c 1 t) (iblk2 V c 3 t) := by dsimp only [dat2]
theorem after2_5 (c : Dev nD) (t : Fin cfg2.N) : (dat2 V c).after 5 t = total V c t.val t.isLt := by dsimp only [dat2]
theorem after2_6 (c : Dev nD) (t : Fin cfg2.N) : (dat2 V c).after 6 t = k2_pay4 (total V c t.val t.isLt) := by dsimp only [dat2]

/-- Each input's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; try rfl)

/-- Whether the running total's buffer still holds nothing of the body's at each position: at the start only, and
    after the last point's write-back. -/
def freshTab5 : ℕ → Bool
  | 0 => true
  | n + 1 => (0x80 : ℕ).testBit n

/-- The table satisfies the configuration's own step, -/
theorem freshTab5_step : ∀ t : Fin cfg2.N,
    freshTab5 (t.val + 1) = ((cfg2.win 5).flush t || (cfg2.idle 5 (cfg2.grid.coords t) && freshTab5 t.val)) := by decide +kernel

/-- hence it is the configuration's. -/
theorem fresh5_eq (t : Fin cfg2.N) : cfg2.fresh 5 t.val = freshTab5 t.val :=
  Pipeline.Cfg.fresh_tab cfg2 5 freshTab5 rfl freshTab5_step t.val (Nat.le_of_lt t.isLt)

/-- After the first point the running total's buffer holds what the body stored. -/
theorem notFresh5 : ∀ t : Fin cfg2.N, t.val ≠ 0 → cfg2.fresh 5 t.val = false := by
  intro t; rw [fresh5_eq t]; revert t; decide +kernel

/-- The running total's window is live at every point, -/
theorem live5 : ∀ t : Fin cfg2.N, cfg2.idle 5 (grid2.coords t) = false := by decide +kernel

/-- the scaled total's at the last, -/
theorem live6 : ∀ t : Fin cfg2.N, t.val = 7 → cfg2.idle 6 (grid2.coords t) = false := by decide +kernel

/-- and at no other: there it is neither stored into nor written back. -/
theorem idle6 : ∀ t : Fin cfg2.N, t.val ≠ 7 → cfg2.idle 6 (grid2.coords t) = true := by decide +kernel
theorem noFlush6 : ∀ t : Fin cfg2.N, t.val ≠ 7 → (cfg2.win 6).flush t = false := by decide +kernel

/-- At a later point the running total's buffer holds the total after the point before. -/
theorem before2_5 (c : Dev nD) (t : Fin cfg2.N) (h : t.val ≠ 0) (d) :
    (dat2 V c).before 5 t d = total V c (t.val - 1) (Nat.lt_of_le_of_lt (Nat.sub_le _ _) t.isLt) := by
  rw [Dat.before_out_traj _ 5 rfl (fun _ _ => rfl)
      (fun t _ hi _ => absurd ((live5 t).symm.trans hi) Bool.false_ne_true) t.val t rfl d,
    if_neg (by rw [notFresh5 t h]; exact Bool.false_ne_true)]
  dsimp only [dat2]

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- A live window's leaving condition: its buffer at what the proof data says. -/
theorem leaves_live (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 1200000 in
/-- The body at any point of the grid. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    leaves_live V c 0 t rfl, leaves_live V c 1 t rfl, leaves_live V c 2 t rfl, leaves_live V c 3 t rfl, leaves_live V c 4 t rfl,
    leaves_live V c 5 t (live5 t), after2_0, after2_1, after2_2, after2_3, after2_4, after2_5]
  by_cases h0 : t.val = 0
  · have h7 : t.val ≠ 7 := by omega
    rw [Dat.leavesExact_idle (dat2 V c) 6 t (idle6 t h7) (noFlush6 t h7), total_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ ((hcond2_0 t).mpr h0) (fun h => (hcond2_1 t).mp h h0) (fun h => h7 ((hcond2_2 t).mp h)) (iblk2 V c 0 t) (iblk2 V c 1 t) (iblk2 V c 2 t) (iblk2 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 := (hcond2_1 t).mpr h0
    rw [total_later V c t h0]
    simp only [before2_5 V c t h0]
    by_cases h7 : t.val = 7
    · rw [leaves_live V c 6 t (live6 t h7), after2_6, total_later V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ (grid2.coords t) _ _ _ _ _ _ _ _ _ _ _ _ _ _ (fun h => h0 ((hcond2_0 t).mp h)) h1 ((hcond2_2 t).mpr h7) (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idle6 t h7) (noFlush6 t h7)]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ (grid2.coords t) _ _ _ _ _ _ _ _ _ _ _ _ _ _ (fun h => h0 ((hcond2_0 t).mp h)) h1 (fun h => h7 ((hcond2_2 t).mp h)) (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The row of the body table at point `t` is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The decoding pipeline's body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.Run.lean ====
/- The run of the whole program: the buffers at each segment boundary, the three kernel calls as segments, and the
   final state: every buffer at the last boundary's contents, every semaphore at zero. -/
module

public import proofs.«01_k».proof.Proof.Encode
public import proofs.«01_k».proof.Proof.Select
public import proofs.«01_k».proof.Proof.Decode
public import proofs.«01_k».proof.Proof.Gen.KernelIdeal.Regions
public import Idealize.ShloMosaic.Lib.Claim
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Own

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory and the generator registers at launch
variable (m : (ℓ : Loc nD τ sig) → Buf (Elt F) ℓ) (ρ : Dev nD → PrngReg)

/-- The argument arrays. -/
abbrev argRefs : List (Ref sig .tc) := [main_arg0, main_arg1, main_arg2, main_arg3, main_arg4]

/-- No host operation writes an argument. -/
theorem hostOps0_args : ∀ a ∈ argRefs, a ∉ hostOps0_W := ListAll.forall_mem_of_all_decide (by decide +kernel)
theorem hostOps3_args : ∀ a ∈ argRefs, a ∉ hostOps3_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- after the first host stretch, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- and the same read at the TensorCore's references. -/
abbrev V1 : (c : Dev nD) → (b : Ref sig .tc) → Buf (Elt F) ((c : Thread nD τ).loc b) := fun c b => W1 m ρ c b

/-- The buffers at the exit of call 0: its arrays at what the pipeline leaves, every other as at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output array of call 0 is as at its entry. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers at the exit of call 1: its arrays at what the pipeline leaves, every other as at entry. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output array of call 1 is as at its entry. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers at the exit of call 2: its arrays at what the pipeline leaves, every other as at entry. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A buffer that is no output array of call 2 is as at its entry. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch: the final contents. -/
abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-- No pipeline has a table. -/
abbrev adm : (p : Fin 3) → (pcfgs (F := F) p).Adm := fun p => (cfgs p).toPCfg_adm
/-- Every pipeline's proof data, at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside nothing owed. -/
abbrev Tₙ (c : Dev nD) : sProp 𝕄 := iprop(StableHlo.held (c : Thread nD τ) (Pipeline.ucRefs τ sig) (W5 m ρ c) ∗ ∃ r, prngReg c r)

-- `iapply` of a library lemma stated over `pin pcs a p` unifies with the pinned configuration only when unification may
-- unfold plain definitions in a metavariable's type
set_option backward.isDefEq.respectTransparency.types false in
/-- Call 0 as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 2 as a segment. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, from any memory with zero counters: it ends, nothing faulting, every unscoped buffer at the last
    boundary's contents and every semaphore counter at zero. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      refine (show iprop(StableHlo.held (c : Thread nD τ) (Pipeline.ucRefs τ sig) (W5 m ρ c) ∗ R c) ⊢ _ from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W5_args m ρ c main_arg0 (by decide)),
     (h.1 c _ (mem_uc main_arg1 (by decide))).trans (W5_args m ρ c main_arg1 (by decide)),
     (h.1 c _ (mem_uc main_arg2 (by decide))).trans (W5_args m ρ c main_arg2 (by decide)),
     (h.1 c _ (mem_uc main_arg3 (by decide))).trans (W5_args m ρ c main_arg3 (by decide)),
     (h.1 c _ (mem_uc main_arg4 (by decide))).trans (W5_args m ρ c main_arg4 (by decide))⟩, h.2⟩) (run_all m ρ)

end Cert.KernelIdeal.Own

end
-- ==== Proof.KernelRun.lean ====
/- The frame of the program at machine floats: the two printings of the kernel program are the same program, so
   the run of the one is the run of the other. -/
module

public import proofs.«01_k».proof.Defs
public import proofs.«01_k».proof.Proof.Run
public import proofs.«01_k».proof.Proof.Gen.Kernel

@[expose] public section

noncomputable section

namespace Cert.Kernel.Own

open Idealize.ShloMosaic Idealize.ShloMosaic.TcCoe Idealize.SL.Sem

attribute [local instance] Cert.Kernel.Gen.facts Cert.KernelIdeal.Gen.facts

/-- The three bodies are the same functions, -/
theorem body0_eq (i a1 h1 a2 h2 a3 h3 a4 h4 a5 h5) :
    Cert.Kernel.cc0__encode_body (F := Bits) i a1 h1 a2 h2 a3 h3 a4 h4 a5 h5
      = Cert.KernelIdeal.cc0__encode_body (F := Bits) i a1 h1 a2 h2 a3 h3 a4 h4 a5 h5 := rfl
theorem body1_eq (i a1 h1 a2 h2 a3 h3) :
    Cert.Kernel.cc1__select_body (F := Bits) i a1 h1 a2 h2 a3 h3
      = Cert.KernelIdeal.cc1__select_body (F := Bits) i a1 h1 a2 h2 a3 h3 := rfl
theorem body2_eq (i a1 h1 a2 h2 a3 h3 a4 h4 a5 h5 a6 h6 a7 h7) :
    Cert.Kernel.cc2__decode_body (F := Bits) i a1 h1 a2 h2 a3 h3 a4 h4 a5 h5 a6 h6 a7 h7
      = Cert.KernelIdeal.cc2__decode_body (F := Bits) i a1 h1 a2 h2 a3 h3 a4 h4 a5 h5 a6 h6 a7 h7 := rfl

/-- so the body tables agree at every label, -/
theorem row0_eq (t : Fin Cert.Kernel.grid0.N) (s : (w : Fin 5) → Fin (Cert.Kernel.win0 w).nbuf) :
    Cert.Kernel.defs₀ (F := Bits) .tc 0 (t, s) = Cert.KernelIdeal.defs₀ (F := Bits) .tc 0 (t, s) := by
  unfold Cert.Kernel.defs₀ Cert.KernelIdeal.defs₀
  rw [Defs.onTc_tc, Defs.onTc_tc]
  exact body0_eq _ _ _ _ _ _ _ _ _ _ _
theorem row1_eq (t : Fin Cert.Kernel.grid1.N) (s : (w : Fin 3) → Fin (Cert.Kernel.win1 w).nbuf) :
    Cert.Kernel.defs₀ (F := Bits) .tc 1 (t, s) = Cert.KernelIdeal.defs₀ (F := Bits) .tc 1 (t, s) := by
  unfold Cert.Kernel.defs₀ Cert.KernelIdeal.defs₀
  rw [Defs.onTc_tc, Defs.onTc_tc]
  exact body1_eq _ _ _ _ _ _ _
theorem row2_eq (t : Fin Cert.Kernel.grid2.N) (s : (w : Fin 7) → Fin (Cert.Kernel.win2 w).nbuf) :
    Cert.Kernel.defs₀ (F := Bits) .tc 2 (t, s) = Cert.KernelIdeal.defs₀ (F := Bits) .tc 2 (t, s) := by
  unfold Cert.Kernel.defs₀ Cert.KernelIdeal.defs₀
  rw [Defs.onTc_tc, Defs.onTc_tc]
  exact body2_eq _ _ _ _ _ _ _ _ _ _ _ _ _ _ _

/-- hence the tables, -/
theorem table_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun x => row0_eq x.1 x.2
  | 1 => exact funext fun x => row1_eq x.1 x.2
  | 2 => exact funext fun x => row2_eq x.1 x.2

/-- and the tables with the pipelines. -/
theorem defs_eq : Cert.Kernel.defs (F := Bits) = Cert.KernelIdeal.defs (F := Bits) :=
  congrArg (Pipeline.defs (Cert.KernelIdeal.pcfgs (F := Bits))) table_eq

/-- The two host programs are the same. -/
theorem main_eq : Cert.Kernel.main (F := Bits) = Cert.KernelIdeal.main (F := Bits) := rfl

/-- The kernel's frame at machine floats. -/
theorem frame : Cert.quiescent_Kernel (hKernel := Cert.Kernel.Gen.facts) := by
  intro m ρ _
  rw [defs_eq, main_eq]
  exact Cert.KernelIdeal.Own.frame (F := Bits) m ρ

end Cert.Kernel.Own

end
-- ==== Proof.RefRun.lean ====
/- The reference's frame, with every counter at zero, and the side conditions the precondition's function states. -/
module

public import proofs.«01_k».proof.Defs
public import proofs.«01_k».proof.Proof.Gen.ReferenceIdeal
public import proofs.«01_k».proof.Proof.Gen.ReferenceIdeal.Run

@[expose] public section

noncomputable section

namespace Cert.Pre_same_float_cell.Own

open Idealize.ShloMosaic

/-- The shapes the precondition's operations relate are related as it states. -/
theorem facts : Cert.Pre_same_float_cell.Facts where
  bcast_S1024_S1x1024_1 := by decide
  bcast_S1x1024_S4096x1024_0_1 := by decide
  transposes_S8192x1024_S1024x8192_1_0 := by decide
  bcast_S8192_S1x8192_1 := by decide
  bcast_S1x8192_S4096x8192_0_1 := by decide
  bcast_S_S4096x8192 := by decide
  sliceFits_S4096x8192_S4096x65 := by decide
  slices_S4096x65_S4096x1_0_63 := by decide
  slices_S4096x65_S4096x1_0_64 := by decide
  bcast_S_S254 := by decide
  bcast_S254_S1x254_1 := by decide
  bcast_S_S1x254 := by decide
  bcast_S1x254_S4096x254_0_1 := by decide
  bcast_S4096x1_S4096x254_0_1 := by decide
  bcast_S_S4096x254 := by decide
  reducesTo_S4096x254_S4096_d1 := by decide
  h_S_ := by decide
  bcast_S4096_S4096x1_0 := by decide
  bcast_S_S4096x1 := by decide
  bcast_S4096x1_S4096x8192_0_1 := by decide
  reducesTo_S4096x8192_S4096_d1 := by decide
  dot_S4096x1024_S1024x8192_S4096x8192_1_0_0_1_n_n_wf := by decide

end Cert.Pre_same_float_cell.Own

namespace Cert.ReferenceIdeal.Own

open Idealize.ShloMosaic Idealize.SL Idealize.SL.Sem Idealize.ShloMosaic.TcCoe

/-- The reference's machine has no semaphore. -/
theorem no_sem (sm : SemLoc Cert.ReferenceIdeal.sig) : False := by
  cases sm with
  | reg s => exact Fin.elim0 s
  | dma s => exact Fin.elim0 s

/-- The reference's frame: it runs, its arguments end unchanged, every counter is zero. -/
theorem frame : Cert.quiescent_ReferenceIdeal (hReferenceIdeal := Cert.ReferenceIdeal.Gen.facts) := by
  intro m ρ _
  refine (θ_run _ _ _).mono (fun r h => ?_) (Cert.ReferenceIdeal.Value.run (F := Ideal) m ρ)
  exact ⟨fun c => (h c).2.2.2.2, funext fun g => (no_sem g.2).elim⟩

end Cert.ReferenceIdeal.Own

end
-- ==== Proof.Rank.lean ====
/- One row of values: which positions are among its 64 greatest (ties to the lower position), and what a threshold
   with a cut of the tied positions keeps. Nothing here names a program. -/
module

public import Mathlib.Data.EReal.Basic
public import Mathlib.Data.Fintype.Card

@[expose] public section

noncomputable section

namespace Cert.Row

/-- How many positions satisfy `P`. -/
def count {n : ℕ} (P : Fin n → Prop) : ℕ := by
  classical exact (Finset.univ.filter P).card

/-- Fewer positions satisfy the stronger property. -/
theorem count_mono {n : ℕ} {P Q : Fin n → Prop} (h : ∀ i, P i → Q i) : count P ≤ count Q := by
  classical
  exact Finset.card_le_card fun i hi => by
    rw [Finset.mem_filter] at hi ⊢; exact ⟨hi.1, h i hi.2⟩

/-- Equivalent properties have the same count. -/
theorem count_congr {n : ℕ} {P Q : Fin n → Prop} (h : ∀ i, P i ↔ Q i) : count P = count Q :=
  le_antisymm (count_mono fun i => (h i).mp) (count_mono fun i => (h i).mpr)

/-- One property may be missed at a position where the other holds only at the price of one. -/
theorem count_lt {n : ℕ} {P Q : Fin n → Prop} (h : ∀ i, P i → Q i) (k : Fin n) (hk : Q k) (hn : ¬P k) : count P < count Q := by
  classical
  refine Finset.card_lt_card (Finset.ssubset_iff_subset_ne.mpr ⟨fun i hi => ?_, fun he => ?_⟩)
  · rw [Finset.mem_filter] at hi ⊢; exact ⟨hi.1, h i hi.2⟩
  · exact hn (Finset.mem_filter.mp (he ▸ Finset.mem_filter.mpr ⟨Finset.mem_univ k, hk⟩)).2

/-- A property with at least the count of a weaker one is that one. -/
theorem of_count_le {n : ℕ} {P Q : Fin n → Prop} (h : ∀ i, P i → Q i) (hc : count Q ≤ count P) (k : Fin n) (hk : Q k) : P k := by
  by_contra hn
  exact absurd (count_lt h k hk hn) (not_lt.mpr hc)

/-- Counts of exclusive properties add. -/
theorem count_or {n : ℕ} {P Q : Fin n → Prop} (h : ∀ i, P i → ¬Q i) : count (fun i => P i ∨ Q i) = count P + count Q := by
  classical
  have hd : Disjoint (Finset.univ.filter P) (Finset.univ.filter Q) := Finset.disjoint_filter.mpr fun i _ hp => h i hp
  have hu : (Finset.univ.filter fun i => P i ∨ Q i) = Finset.univ.filter P ∪ Finset.univ.filter Q := by
    ext i; simp
  have hcard := Finset.card_union_of_disjoint hd
  rw [← hu] at hcard
  unfold count
  convert hcard

/-- A property that holds at one position at most counts for one at most. -/
theorem count_le_one {n : ℕ} {P : Fin n → Prop} (h : ∀ i j, P i → P j → i = j) : count P ≤ 1 := by
  classical
  exact Finset.card_le_one.mpr fun i hi j hj => h i j (Finset.mem_filter.mp hi).2 (Finset.mem_filter.mp hj).2

theorem count_true {n : ℕ} : count (fun _ : Fin n => True) = n := by
  classical
  unfold count
  rw [Finset.filter_true, Finset.card_univ, Fintype.card_fin]

theorem count_false {n : ℕ} {P : Fin n → Prop} (h : ∀ i, ¬P i) : count P = 0 := by
  classical
  exact Finset.card_eq_zero.mpr (Finset.filter_eq_empty_iff.mpr fun i _ => h i)

section
variable {n : ℕ} (a : Fin n → EReal)

/-- Position `j` goes before position `i`: greater, or equal and at a lower position. -/
def Before (j i : Fin n) : Prop := a i < a j ∨ (a j = a i ∧ j < i)

/-- Position `i` is among the 64 first. -/
def Kept (i : Fin n) : Prop := count (fun j => Before a j i) < 64

open Classical in
/-- The row with everything but its 64 first positions at zero. -/
def hidden (i : Fin n) : EReal := if Kept a i then a i else 0

/-- How many values are at least `t`. -/
def countGe (t : EReal) : ℕ := count fun i => t ≤ a i

/-- How many values are exactly `t`, at positions up to `z`. -/
def countTie (t : EReal) (z : ℤ) : ℕ := count fun i => a i = t ∧ (i.val : ℤ) ≤ z

/-- A set of 64 positions that holds with each position those before it is the set of the 64 first. -/
theorem kept_iff {U : Fin n → Prop} (hU : ∀ i j, U i → Before a j i → U j) (hc : count U = 64) (i : Fin n) : Kept a i ↔ U i := by
  constructor
  · intro hk
    by_contra hi
    refine absurd hk (not_lt.mpr (hc ▸ count_mono fun u hu => ?_))
    rcases lt_trichotomy (a i) (a u) with h | h | h
    · exact Or.inl h
    · rcases lt_trichotomy u i with h' | h' | h'
      · exact Or.inr ⟨h.symm, h'⟩
      · exact absurd (h' ▸ hu) hi
      · exact absurd (hU u i hu (Or.inr ⟨h, h'⟩)) hi
    · exact absurd (hU u i hu (Or.inl h)) hi
  · intro hi
    exact lt_of_lt_of_eq (count_lt (fun j hj => hU i j hi hj) i hi (fun h => h.elim (lt_irrefl _) fun h => lt_irrefl _ h.2)) hc

/-- Where 64 values reach the threshold, they are the kept ones. -/
theorem kept_of_countGe {T : EReal} (h : countGe a T = 64) (i : Fin n) : Kept a i ↔ T ≤ a i :=
  kept_iff a (U := fun i => T ≤ a i) (fun i j hi hj => hj.elim (fun h => hi.trans h.le) fun h => hi.trans h.1.symm.le) h i

/-- Where the values above the threshold and the ties up to the cut are 64, they are the kept ones. -/
theorem kept_of_cut {T : EReal} {z : ℤ} (h : count (fun i => T < a i) + countTie a T z = 64) (i : Fin n) :
    Kept a i ↔ (T < a i ∨ (a i = T ∧ (i.val : ℤ) ≤ z)) := by
  refine kept_iff a (U := fun i => T < a i ∨ (a i = T ∧ (i.val : ℤ) ≤ z)) ?_ ?_ i
  · rintro i j (hi | hi) (hj | hj)
    · exact Or.inl (hi.trans hj)
    · exact Or.inl (hj.1 ▸ hi)
    · exact Or.inl (hi.1 ▸ hj)
    · refine Or.inr ⟨hj.1.trans hi.1, ?_⟩
      have := hi.2
      have h2 : j.val < i.val := hj.2
      omega
  · exact (count_or fun i hi hj => absurd hj.1 hi.ne').trans h

/-- Where at most 64 values are positive and none is negative, zeroing all but the 64 first changes nothing. -/
theorem hidden_eq_self (h0 : ∀ i, 0 ≤ a i) (hp : count (fun i => 0 < a i) ≤ 64) : hidden a = a := by
  funext i
  unfold hidden
  split
  · rfl
  · rename_i hk
    by_contra hne
    have hi : 0 < a i := lt_of_le_of_ne (h0 i) hne
    refine hk (lt_of_lt_of_le (count_lt (Q := fun i => 0 < a i) (fun j hj => ?_) i hi
      (fun h => h.elim (lt_irrefl _) fun h => lt_irrefl _ h.2)) hp)
    exact hj.elim (fun h => hi.trans h) fun h => h.1.symm ▸ hi

/-- The values at least `T` are those above and those equal. -/
theorem countGe_eq (T : EReal) : countGe a T = count (fun i => T < a i) + count (fun i => a i = T) :=
  (count_congr fun i => (le_iff_lt_or_eq.trans (or_congr_right eq_comm))).trans (count_or fun i hi hj => absurd hj hi.ne')

/-- What the threshold search ends with: neighbouring thresholds `T < T'` (`T'` is the last when `e`), the count at
    the lower at least 64, and the count at the upper below 64, or zero when the upper was never tried. -/
structure Found (T T' : EReal) (e : Prop) (nlo nhi : ℕ) : Prop where
  lt : T < T'
  nonneg : 0 ≤ T
  lo_eq : nlo = countGe a T
  lo_ge : 64 ≤ nlo
  hi : (e ∧ nhi = 0) ∨ (¬e ∧ nhi = countGe a T' ∧ nhi < 64)

/-- What the claim assumes of the row: at most 64 positive values, or at most 64 values at the threshold or above,
    or no value strictly between the two thresholds (above the lower, when the upper is the last). -/
def Separated (T T' : EReal) (e : Prop) : Prop :=
  count (fun i => 0 < a i) ≤ 64 ∨ countGe a T ≤ 64 ∨ ∀ i, ¬(T < a i ∧ (a i < T' ∨ e))

variable {a}
variable {T T' : EReal} {e : Prop} {nlo nhi : ℕ}

/-- The upper count is at most the number of values above the threshold, -/
theorem Found.hi_le (H : Found a T T' e nlo nhi) : nhi ≤ count fun i => T < a i := by
  rcases H.hi with h | h
  · omega
  · exact h.2.1 ▸ count_mono fun i hi => H.lt.trans_le hi

/-- below 64, -/
theorem Found.hi_lt (H : Found a T T' e nlo nhi) : nhi < 64 := by
  rcases H.hi with h | h <;> omega

/-- and exactly that number when no value lies strictly between. -/
theorem Found.hi_eq (H : Found a T T' e nlo nhi) (hs : ∀ i, ¬(T < a i ∧ (a i < T' ∨ e))) : nhi = count fun i => T < a i := by
  rcases H.hi with ⟨he, h⟩ | ⟨-, h, -⟩
  · exact h.trans (count_false fun i hi => hs i ⟨hi, Or.inr he⟩).symm
  · exact h.trans (count_congr fun i => ⟨fun hi => H.lt.trans_le hi, fun hi => not_lt.mp fun h' => hs i ⟨hi, Or.inl h'⟩⟩)

/-- More than 64 values at the threshold and at most 64 positive ones: the threshold is zero. -/
theorem Found.eq_zero (H : Found a T T' e nlo nhi) (hp : count (fun i => 0 < a i) ≤ 64) (hn : nlo ≠ 64) : T = 0 := by
  by_contra hne
  have hT : 0 < T := lt_of_le_of_ne H.nonneg (Ne.symm hne)
  have := count_mono (P := fun i => T ≤ a i) (Q := fun i => 0 < a i) fun i hi => hT.trans_le hi
  have h1 := H.lo_eq
  have h2 := H.lo_ge
  unfold countGe at h1
  omega

open Classical in
/-- THE FAST PATH: where the count at the threshold is 64 or the threshold is zero, keeping the values at least the
    threshold keeps the 64 first. -/
theorem Found.fast (H : Found a T T' e nlo nhi) (h0 : ∀ i, 0 ≤ a i) (hs : Separated a T T' e) (ok : nlo = 64 ∨ T = 0)
    (i : Fin n) : (if T ≤ a i then a i else 0) = hidden a i := by
  by_cases hn : nlo = 64
  · unfold hidden
    exact (if_congr (kept_of_countGe a (H.lo_eq.symm.trans hn) i) rfl rfl).symm
  · have hT : T = 0 := ok.resolve_left hn
    have hp : count (fun i => 0 < a i) ≤ 64 := by
      rcases hs with h | h | h
      · exact h
      · have := H.lo_eq; have := H.lo_ge; omega
      · have := H.hi_eq h; have := H.hi_lt; rw [hT] at *; omega
    rw [hidden_eq_self a h0 hp, if_pos (hT ▸ h0 i)]

open Classical in
/-- THE SLOW PATH: keeping the values above the threshold and the ties up to the cut keeps the 64 first, where the
    cut is the least at which they reach 64, or the last position when they never do. -/
theorem Found.slow (H : Found a T T' e nlo nhi) (h0 : ∀ i, 0 ≤ a i) (hs : Separated a T T' e) {z : ℤ}
    (hlt : countTie a T (z - 1) + nhi < 64) (hge : (∀ i : Fin n, (i.val : ℤ) ≤ z) ∨ 64 ≤ countTie a T z + nhi) (i : Fin n) :
    (if T < a i ∨ (a i = T ∧ (i.val : ℤ) ≤ z) then a i else 0) = hidden a i := by
  have hlo := H.lo_eq
  have hsum := countGe_eq a T
  by_cases hn : nlo = 64
  · -- 64 values at the threshold or above: every tie is kept
    unfold hidden
    refine if_congr (Iff.trans ?_ (kept_of_countGe a (H.lo_eq.symm.trans hn) i).symm) rfl rfl
    refine ⟨fun h => h.elim le_of_lt fun h => h.1.symm.le, fun h => ?_⟩
    rcases h.lt_or_eq with h | h
    · exact Or.inl h
    refine Or.inr ⟨h.symm, ?_⟩
    rcases hge with hz | hz
    · exact hz i
    · have hle := H.hi_le
      exact (of_count_le (P := fun i => a i = T ∧ (i.val : ℤ) ≤ z) (Q := fun i => a i = T) (fun i hi => hi.1)
        (by have : countTie a T z = count fun i => a i = T ∧ (i.val : ℤ) ≤ z := rfl
            omega) i h.symm).2
  · by_cases hp : count (fun i => 0 < a i) ≤ 64
    · rw [hidden_eq_self a h0 hp]
      have hT := H.eq_zero hp hn
      subst hT
      split
      · rfl
      · rename_i h
        exact le_antisymm (h0 i) (not_lt.mp fun h' => h (Or.inl h'))
    · have hc : ∀ i, ¬(T < a i ∧ (a i < T' ∨ e)) := by
        rcases hs with h | h | h
        · exact absurd h hp
        · have := H.lo_ge; omega
        · exact h
      have he := H.hi_eq hc
      have hge64 := H.lo_ge
      unfold hidden
      refine (if_congr (kept_of_cut a ?_ i) rfl rfl).symm
      rw [← he]
      have h1 : countTie a T z ≤ countTie a T (z - 1) + 1 := by
        have h2 : countTie a T z = countTie a T (z - 1) + count (fun i => a i = T ∧ (i.val : ℤ) = z) :=
          (count_congr fun i => by constructor
                                   · rintro ⟨h, h'⟩
                                     rcases h'.lt_or_eq with h'' | h''
                                     · exact Or.inl ⟨h, by omega⟩
                                     · exact Or.inr ⟨h, h''⟩
                                   · rintro (⟨h, h'⟩ | ⟨h, h'⟩)
                                     · exact ⟨h, by omega⟩
                                     · exact ⟨h, h'.le⟩).trans
            (count_or fun i hi hj => by have := hi.2; have := hj.2; omega)
        have h3 := count_le_one (P := fun i : Fin n => a i = T ∧ (i.val : ℤ) = z) fun i j hi hj =>
          Fin.ext (by have := hi.2; have := hj.2; omega)
        omega
      rcases hge with hz | hz
      · have : countTie a T z = count fun i => a i = T := count_congr fun i => ⟨fun h => h.1, fun h => ⟨h, hz i⟩⟩
        omega
      · omega

end

end Cert.Row

end
-- ==== Proof.Cells.lean ====
/- The nonnegative single-precision values in increasing order: the value of each bit pattern read over the extended
   reals, and the gap to the next. -/
module

public import Idealize.ShloMosaic.PureOps
public import Idealize.ShloMosaic.PureOps.Ideal

@[expose] public section

noncomputable section

namespace Cert.Cell

open Idealize.ShloMosaic

/-- The bit pattern of infinity. -/
def top : ℕ := 2139095040

/-- The value of bit pattern `n`. -/
def val (n : ℕ) : EReal := Ideal.ofBits .f32 (BitVec.ofNat 32 n)

/-- The exponent field, a subnormal read as the first. -/
def ex (n : ℕ) : ℕ := max (n / 2 ^ 23) 1

/-- The significand, the hidden bit included. -/
def mant (n : ℕ) : ℕ := if n / 2 ^ 23 = 0 then n else 2 ^ 23 + n % 2 ^ 23

/-- The gap between pattern `n` and the next. -/
def gap (n : ℕ) : ℝ := (2 : ℝ) ^ ((ex n : ℤ) - 150)

theorem gap_pos (n : ℕ) : 0 < gap n := by unfold gap; positivity

/-- The finite patterns read as significand times gap. -/
theorem val_coe {n : ℕ} (h : n < top) : val n = (((mant n : ℝ) * gap n : ℝ) : EReal) := by
  have hn : n < 2 ^ 32 := lt_trans h (by norm_num [top])
  have h255 : n / 2 ^ 23 < 255 := by unfold top at h; omega
  have hneg : (BitVec.ofNat 32 n).extractLsb' 31 1 = 0#1 := by
    apply BitVec.eq_of_toNat_eq
    rw [BitVec.extractLsb'_toNat, BitVec.toNat_ofNat, Nat.mod_eq_of_lt hn, Nat.shiftRight_eq_div_pow]
    unfold top at h
    simp only [BitVec.toNat_ofNat]
    omega
  have hex : ((BitVec.ofNat 32 n).extractLsb' 23 8).toNat = n / 2 ^ 23 := by
    rw [BitVec.extractLsb'_toNat, BitVec.toNat_ofNat, Nat.mod_eq_of_lt hn, Nat.shiftRight_eq_div_pow]
    omega
  have hfr : ((BitVec.ofNat 32 n).extractLsb' 0 23).toNat = n % 2 ^ 23 := by
    rw [BitVec.extractLsb'_toNat, BitVec.toNat_ofNat, Nat.mod_eq_of_lt hn, Nat.shiftRight_eq_div_pow]
    simp
  show Ideal.ieee 8 23 (BitVec.ofNat 32 n) = _
  unfold Ideal.ieee
  simp only [hneg, hex, hfr]
  have hne : ¬(n / 2 ^ 23 = 2 ^ 8 - 1) := by omega
  rw [if_neg hne]
  unfold gap ex mant
  by_cases h0 : n / 2 ^ 23 = 0
  · rw [if_pos h0, if_pos h0, h0]
    have hm : n % 2 ^ 23 = n := Nat.mod_eq_of_lt (by omega)
    rw [hm]
    congr 1
    norm_num
  · rw [if_neg h0, if_neg h0, max_eq_left (by omega)]
    congr 1
    have he : ((n / 2 ^ 23 : ℕ) : ℤ) - (2 ^ (8 - 1) - 1) - (23 : ℕ) = ((n / 2 ^ 23 : ℕ) : ℤ) - 150 := by norm_num; ring
    rw [he]
    simp

theorem val_top : val top = ⊤ := by
  show Ideal.ieee 8 23 (BitVec.ofNat 32 top) = _
  unfold Ideal.ieee
  rw [if_pos (by decide), if_pos (by decide), if_neg (by decide)]

theorem val_zero : val 0 = 0 := by
  rw [val_coe (by norm_num [top])]
  simp [mant]

/-- The significand and gap of the next pattern: the value grows by the gap. -/
theorem step {n : ℕ} (h : n + 1 < top) : (mant (n + 1) : ℝ) * gap (n + 1) = (mant n : ℝ) * gap n + gap n := by
  have h255 : n / 2 ^ 23 < 255 := by unfold top at h; omega
  unfold mant gap ex
  by_cases hc : (n + 1) / 2 ^ 23 = n / 2 ^ 23
  · rw [hc]
    by_cases h0 : n / 2 ^ 23 = 0
    · rw [if_pos h0, if_pos h0]; push_cast; ring
    · rw [if_neg h0, if_neg h0]
      have hm : (n + 1) % 2 ^ 23 = n % 2 ^ 23 + 1 := by omega
      rw [hm]; push_cast; ring
  · have hq : (n + 1) / 2 ^ 23 = n / 2 ^ 23 + 1 := by omega
    have hr : n % 2 ^ 23 = 2 ^ 23 - 1 := by omega
    have hr' : (n + 1) % 2 ^ 23 = 0 := by omega
    rw [if_neg (by omega), hq, hr']
    by_cases h0 : n / 2 ^ 23 = 0
    · have hn : n = 2 ^ 23 - 1 := by omega
      rw [if_pos h0, h0, hn]
      norm_num
    · rw [if_neg h0, hr, max_eq_left (by omega), max_eq_left (by omega)]
      have he : (((n / 2 ^ 23 + 1 : ℕ) : ℤ)) - 150 = ((n / 2 ^ 23 : ℕ) : ℤ) - 150 + 1 := by push_cast; ring
      rw [he, zpow_add_one₀ (by norm_num : (2 : ℝ) ≠ 0)]
      push_cast
      norm_num
      ring

theorem val_succ {n : ℕ} (h : n + 1 < top) : val (n + 1) = val n + ((gap n : ℝ) : EReal) := by
  rw [val_coe h, val_coe (lt_trans (Nat.lt_succ_self n) h), step h, EReal.coe_add]

theorem val_lt_succ {n : ℕ} (h : n < top) : val n < val (n + 1) := by
  rcases Nat.lt_or_ge (n + 1) top with h' | h'
  · rw [val_coe h', val_coe h, step h', EReal.coe_lt_coe_iff]
    exact lt_add_of_pos_right _ (gap_pos n)
  · rw [show n + 1 = top by omega, val_top, val_coe h]
    exact EReal.coe_lt_top _

/-- Values increase with the pattern. -/
theorem val_lt {m n : ℕ} (h : m < n) (hn : n ≤ top) : val m < val n := by
  induction n with
  | zero => omega
  | succ n ih =>
    rcases Nat.lt_or_ge m n with h' | h'
    · exact (ih h' (by omega)).trans (val_lt_succ (by omega))
    · rw [show m = n by omega]; exact val_lt_succ (by omega)

theorem val_nonneg {n : ℕ} (h : n ≤ top) : 0 ≤ val n := by
  rw [← val_zero]
  rcases Nat.eq_zero_or_pos n with rfl | h'
  · exact le_rfl
  · exact (val_lt h' h).le

end Cert.Cell

end
-- ==== Proof.Reads.lean ====
/- The selection's block operations read one row at a time over the extended reals: the middle of two bit patterns,
   and how many positions of a row a mask marks. -/
module

public import proofs.«01_k».proof.Proof.Gen.KernelIdeal.Skeleton
public import proofs.«01_k».proof.Proof.Rank
public import proofs.«01_k».proof.Proof.Cells
public import Idealize.ShloMosaic.PureOps.Ideal.Laws
public import Idealize.ShloMosaic.Lib.Pipeline.Value
public import Idealize.ShloMosaic.Lib.WordCmp

@[expose] public section

noncomputable section

namespace Cert.KernelIdeal.Own

open Gen
open Idealize.ShloMosaic
open Cert.Row

/-- Row `r` of a block. -/
def row (v : FVec Ideal S256x8192 .f32) (r : Fin 256) : Fin 8192 → EReal := fun i => v (Shape.pair (d := ![256, 8192]) r i)

/-- The entry of a column at row `r`. -/
abbrev ent (r : Fin 256) : S256x1.Idx := Shape.pair (d := ![256, 1]) r (0 : Fin 1)

/-- The entry of a block at row `r` and position `i`. -/
abbrev cell (r : Fin 256) (i : Fin 8192) : S256x8192.Idx := Shape.pair (d := ![256, 8192]) r i

/-- The entry of a vector at `r`. -/
def spot (r : Fin 256) : S256.Idx := fun a => ⟨r.val, by
  have : a = 0 := Subsingleton.elim _ _
  subst this
  exact r.isLt⟩

/-- A column spread over a block reads at each position as its row's entry. -/
theorem spread {α : Type} (x : S256x1.Idx → α) (h : S256x1.Broadcasts S256x8192) (r : Fin 256) (i : Fin 8192) :
    broadcastTo S256x8192 x h (cell r i) = x (ent r) := by
  refine broadcastTo_apply x h _ _ fun a => ?_
  match a with
  | ⟨0, _⟩ => rfl
  | ⟨1, _⟩ => rfl

/-- A true bit. -/
theorem bit_one_iff (b : Bool) : BitVec.ofBool b = 1#1 ↔ b = true := by cases b <;> decide

theorem oge_iff (x y : EReal) : Ideal.cmp .oge x y = 1#1 ↔ y ≤ x := by
  unfold Ideal.cmp; by_cases h : y ≤ x <;> simp [h]
theorem ogt_iff (x y : EReal) : Ideal.cmp .ogt x y = 1#1 ↔ y < x := by
  unfold Ideal.cmp; by_cases h : y < x <;> simp [h]
theorem ole_iff (x y : EReal) : Ideal.cmp .ole x y = 1#1 ↔ x ≤ y := by
  unfold Ideal.cmp; by_cases h : x ≤ y <;> simp [h]
theorem olt_iff (x y : EReal) : Ideal.cmp .olt x y = 1#1 ↔ x < y := by
  unfold Ideal.cmp; by_cases h : x < y <;> simp [h]
theorem oeq_iff (x y : EReal) : Ideal.cmp .oeq x y = 1#1 ↔ x = y := by
  unfold Ideal.cmp; by_cases h : x = y <;> simp [h]

/-- A choice whose bit is set, -/
theorem pick_pos {s : Shape} {α : Type} (c : IVec s 1) (x y : s.Idx → α) (i : s.Idx) (h : c i = 1#1) : select c x y i = x i :=
  if_pos h

/-- and one whose bit is not. -/
theorem pick_neg {s : Shape} {α : Type} (c : IVec s 1) (x y : s.Idx → α) (i : s.Idx) (h : ¬c i = 1#1) : select c x y i = y i :=
  if_neg h

/-- A bit is unset or set. -/
theorem bit_cases (b : BitVec 1) : b = 0#1 ∨ b = 1#1 := by
  have := b.isLt
  rcases Nat.lt_or_ge b.toNat 1 with h | h
  · exact .inl (BitVec.eq_of_toNat_eq (by simp; omega))
  · exact .inr (BitVec.eq_of_toNat_eq (by simp; omega))

theorem or_iff (b c : BitVec 1) : IntOp.ori b c = 1#1 ↔ b = 1#1 ∨ c = 1#1 := by
  rcases bit_cases b with rfl | rfl <;> rcases bit_cases c with rfl | rfl <;> decide

theorem and_iff (b c : BitVec 1) : IntOp.andi b c = 1#1 ↔ b = 1#1 ∧ c = 1#1 := by
  rcases bit_cases b with rfl | rfl <;> rcases bit_cases c with rfl | rfl <;> decide

/-- Signed comparison of small integers. -/
theorem sle_iff (z w : ℤ) (hz : -1 ≤ z) (hz' : z ≤ 8191) (hw : -1 ≤ w) (hw' : w ≤ 8191) :
    IntOp.cmpi .sle (BitVec.ofInt 32 z) (BitVec.ofInt 32 w) = 1#1 ↔ z ≤ w := by
  show BitVec.ofBool ((BitVec.ofInt 32 z).sle (BitVec.ofInt 32 w)) = 1#1 ↔ _
  rw [bit_one_iff, BitVec.sle_eq_decide, decide_eq_true_iff, BitVec.toInt_ofInt, BitVec.toInt_ofInt,
    Int.bmod_eq_of_le (by norm_num; omega) (by norm_num; omega), Int.bmod_eq_of_le (by norm_num; omega) (by norm_num; omega)]

/-- Equality of a word with zero. -/
theorem eq_zero_iff (x : BitVec 32) : IntOp.cmpi .eq x 0#32 = 1#1 ↔ x = 0#32 := by
  show BitVec.ofBool (x == 0#32) = 1#1 ↔ _
  rw [bit_one_iff, beq_iff_eq]

/-- A mask's bit as a number. -/
theorem bit_val (b : BitVec 1) : (((b.setWidth 32 : BitVec 32).toInt : ℝ)) = if b = 1#1 then 1 else 0 := by
  rcases bit_cases b with rfl | rfl
  · rw [if_neg (by decide)]; norm_num
  · rw [if_pos rfl]; norm_num

/-- A sum of finite values is finite, the values' sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The kernel's count of a mask's marks along each row. -/
def marks (M : IVec S256x8192 1) : FVec Ideal S256x1 .f32 :=
  shapeCast S256x1 (multiReduction .add [1] S256 (sitofp (F := Ideal) .f32 (extui 32 M natLt_1_32)) 0x00000000#32
    reduces_S256x8192_S256 (.inl rfl) rfl) shapeCasts_S256_S256x1

/-- It is the number of marked positions. -/
theorem marks_eq (M : IVec S256x8192 1) (r : Fin 256) :
    marks M (ent r) = (((count fun i => M (cell r i) = 1#1 : ℕ) : ℝ) : EReal) := by
  classical
  unfold marks
  rw [shapeCast_apply _ _ (ent r) (spot r) (by
    have h1 := Shape.rowMajor_pair_val (d := ![256, 1]) r (0 : Fin 1)
    have h2 := Shape.rowMajor_val_one (spot r)
    refine h2.trans (Eq.trans ?_ h1.symm)
    simp [spot])]
  refine (Ideal.multiReduction_add_single _ _ _ _ _ _).trans ?_
  have hk : ∀ k : Fin 8192, reduces_S256x8192_S256.lift (spot r) k = cell r k := by
    intro k
    funext a
    match a with
    | 0 => rfl
    | 1 => rfl
  refine (Finset.sum_congr rfl fun k _ => (?_ : _ = ((if M (cell r k) = 1#1 then (1 : ℝ) else 0 : ℝ) : EReal))).trans ?_
  · rw [← bit_val]
    exact congrArg (fun j => (((((M j).setWidth 32 : BitVec 32).toInt : ℝ)) : EReal)) (hk k)
  · refine (sum_coe (Finset.univ : Finset (Fin 8192)) _).trans ?_
    rw [Finset.sum_boole]
    have hc : (Finset.univ.filter fun k => M (cell r k) = 1#1).card = count fun i => M (cell r i) = 1#1 := by
      unfold Row.count
      convert rfl
    rw [hc]

theorem ofInt_sub' (w z : ℤ) : BitVec.ofInt 32 w - BitVec.ofInt 32 z = BitVec.ofInt 32 (w - z) := by
  apply BitVec.eq_of_toNat_eq
  simp only [BitVec.toNat_sub, BitVec.toNat_ofInt]
  omega

theorem ofInt_add' (w z : ℤ) : BitVec.ofInt 32 w + BitVec.ofInt 32 z = BitVec.ofInt 32 (w + z) := by
  apply BitVec.eq_of_toNat_eq
  simp only [BitVec.toNat_add, BitVec.toNat_ofInt]
  omega

/-- The middle of two bit patterns, as the kernel takes it. -/
theorem mid_eq (z w : ℤ) (h : z ≤ w) (hw : w - z < 2 ^ 32) :
    IntOp.addi (BitVec.ofInt 32 z) (IntOp.shrui .vector (IntOp.subi (BitVec.ofInt 32 w) (BitVec.ofInt 32 z)) 1#32)
      = BitVec.ofInt 32 (z + (w - z) / 2) := by
  unfold IntOp.addi IntOp.shrui IntOp.subi
  rw [if_pos (by decide), ofInt_sub']
  have hs : BitVec.ofInt 32 (w - z) >>> (1#32 : BitVec 32) = BitVec.ofInt 32 ((w - z) / 2) := by
    apply BitVec.eq_of_toNat_eq
    rw [BitVec.ushiftRight_eq', BitVec.toNat_ushiftRight, BitVec.toNat_ofInt, BitVec.toNat_ofInt, Nat.shiftRight_eq_div_pow]
    rw [show (1#32 : BitVec 32).toNat = 1 from rfl, pow_one]
    omega
  rw [hs, ofInt_add']

/-- A fold of one step keeps what the step keeps. -/
theorem foldl_keeps {σ : Type} (step : σ → σ) (P : ℕ → σ → Prop) (n : ℕ) (hs : ∀ k a, k < n → P k a → P (k + 1) (step a))
    (l : List (Fin n)) : ∀ (k : ℕ) (a : σ), k + l.length ≤ n → P k a → P (k + l.length) (l.foldl (fun a _ => step a) a) := by
  induction l with
  | nil => intro k a _ h; exact h
  | cons x l ih =>
    intro k a hk h
    rw [List.length_cons] at hk ⊢
    have := ih (k + 1) (step a) (by omega) (hs k a (by omega) h)
    rw [show k + (l.length + 1) = k + 1 + l.length by omega]
    exact this

/-- So does a counted loop. -/
theorem fold_keeps {σ : Type} (step : σ → σ) (P : ℕ → σ → Prop) (n : ℕ) (hs : ∀ k a, k < n → P k a → P (k + 1) (step a))
    (a : σ) (h : P 0 a) : P n (Scf.fold (n := n) (fun _ a => step a) a) := by
  rw [Scf.fold_eq]
  have := foldl_keeps step P n hs (List.finRange n) 0 a (by simp) h
  simpa using this

theorem lit_64 : Ideal.ofBits .f32 0x42800000#32 = ((64 : ℝ) : EReal) := by
  have h : (0x42800000#32 : BitVec 32) = BitVec.ofNat 32 1115684864 := by decide
  rw [h]; refine (Cell.val_coe (n := 1115684864) (by norm_num [Cell.top])).trans ?_
  norm_num [Cell.mant, Cell.gap, Cell.ex]

theorem lit_8192 : Ideal.ofBits .f32 0x46000000#32 = ((8192 : ℝ) : EReal) := by
  have h : (0x46000000#32 : BitVec 32) = BitVec.ofNat 32 1174405120 := by decide
  rw [h]; refine (Cell.val_coe (n := 1174405120) (by norm_num [Cell.top])).trans ?_
  norm_num [Cell.mant, Cell.gap, Cell.ex]

theorem lit_0 : Ideal.ofBits .f32 0x00000000#32 = ((0 : ℝ) : EReal) := Cell.val_zero

theorem lit_1 : Ideal.ofBits .f32 0x3F800000#32 = ((1 : ℝ) : EReal) := by
  have h : (0x3F800000#32 : BitVec 32) = BitVec.ofNat 32 1065353216 := by decide
  rw [h]; refine (Cell.val_coe (n := 1065353216) (by norm_num [Cell.top])).trans ?_
  norm_num [Cell.mant, Cell.gap, Cell.ex]

end Cert.KernelIdeal.Own

end
-- ==== Proof.Sorted.lean ====
/- The stable sort of one row by "greater first": where each position goes, in terms of how many go before it. -/
module

public import proofs.«01_k».proof.Proof.Rank
public import Idealize.ShloMosaic.PureOps
public import Idealize.ShloMosaic.PureOps.Ideal
public import Idealize.ShloMosaic.Lib.SortFacts

@[expose] public section

noncomputable section

namespace Cert.Row

open Idealize.ShloMosaic

section
variable {n : ℕ} (a : Fin n → EReal)

/-- "Strictly greater", as the sort's comparator decides it. -/
def greater (i j : Fin n) : Bool := Ideal.cmpTotal .gt (a i) (a j) == 1#1

theorem greater_iff (i j : Fin n) : greater a i j = true ↔ a j < a i := by
  unfold greater Ideal.cmpTotal Ideal.cmp
  by_cases h : a j < a i <;> simp [CmpDirection.ordered, h]

/-- Going before is transitive. -/
theorem Before.trans {i j k : Fin n} (h : Before a i j) (h' : Before a j k) : Before a i k := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- Nothing goes before itself. -/
theorem Before.irrefl (i : Fin n) : ¬Before a i i := by
  rintro (h | ⟨_, h⟩)
  · exact lt_irrefl _ h
  · exact lt_irrefl _ h

/-- Inserting a position that is lower than all of a sorted list keeps it sorted. -/
theorem insert_sorted (i : Fin n) (l : List (Fin n)) (hi : ∀ j ∈ l, i < j) (hl : l.Pairwise (Before a)) :
    (insertBefore (greater a) i l).Pairwise (Before a) := by
  induction l with
  | nil => exact List.pairwise_singleton _ _
  | cons b l ih =>
    rw [List.pairwise_cons] at hl
    unfold insertBefore
    split
    · rename_i h
      have hb : a i < a b := (greater_iff a b i).mp h
      refine List.pairwise_cons.mpr ⟨fun x hx => ?_, ih (fun j hj => hi j (List.mem_cons_of_mem b hj)) hl.2⟩
      rcases List.mem_cons.mp ((perm_insertBefore _ i l).mem_iff.mp hx) with rfl | hx
      · exact .inl hb
      · exact hl.1 x hx
    · rename_i h
      have hb : a b ≤ a i := not_lt.mp fun hlt => h ((greater_iff a b i).mpr hlt)
      have hib : Before a i b := by
        rcases lt_or_eq_of_le hb with h' | h'
        · exact .inl h'
        · exact .inr ⟨h'.symm, hi b List.mem_cons_self⟩
      refine List.pairwise_cons.mpr ⟨fun x hx => ?_, List.pairwise_cons.mpr hl⟩
      rcases List.mem_cons.mp hx with rfl | hx
      · exact hib
      · exact hib.trans a (hl.1 x hx)

/-- The stable sort of positions in increasing order puts each before those it goes before. -/
theorem stable_sorted (l : List (Fin n)) (hl : l.Pairwise (· < ·)) : (stableSort (greater a) l).Pairwise (Before a) := by
  induction l with
  | nil => exact List.Pairwise.nil
  | cons i l ih =>
    rw [List.pairwise_cons] at hl
    exact insert_sorted a i _ (fun j hj => hl.1 j ((perm_stableSort _ l).mem_iff.mp hj)) (ih hl.2)

/-- The position the sort puts `k`-th. -/
def nth (k : Fin n) : Fin n := sortedFrom (greater a) k

theorem nth_surjective : Function.Surjective (nth a) := sortedFrom_surjective _

theorem nth_injective : Function.Injective (nth a) := sortedFrom_injective _

/-- An earlier place of the sort goes before a later one. -/
theorem nth_before (k k' : Fin n) (h : k < k') : Before a (nth a k) (nth a k') := by
  have hp : (sortPositions n (greater a)).Pairwise (Before a) := stable_sorted a _ (List.pairwise_lt_finRange n)
  exact List.pairwise_iff_get.mp hp _ _ h

/-- Exactly the earlier places go before. -/
theorem nth_before_iff (k k' : Fin n) : Before a (nth a k) (nth a k') ↔ k < k' := by
  refine ⟨fun h => ?_, nth_before a k k'⟩
  by_contra hn
  rcases lt_or_eq_of_le (not_lt.mp hn) with h' | rfl
  · exact Before.irrefl a _ (h.trans a (nth_before a _ _ h'))
  · exact Before.irrefl a _ h

/-- Hence `k` positions go before the `k`-th. -/
theorem count_before_nth (k : Fin n) : count (fun j => Before a j (nth a k)) = k.val := by
  classical
  have he : (Finset.univ.filter fun j => Before a j (nth a k)) = (Finset.univ.filter fun k' : Fin n => k' < k).image (nth a) := by
    ext j
    obtain ⟨k', rfl⟩ := nth_surjective a j
    simp only [Finset.mem_filter, Finset.mem_univ, true_and, Finset.mem_image]
    rw [nth_before_iff]
    exact ⟨fun h => ⟨k', h, rfl⟩, fun ⟨x, hx, hxe⟩ => nth_injective a hxe ▸ hx⟩
  have hcard : (Finset.univ.filter fun j => Before a j (nth a k)).card = k.val := by
    rw [he, Finset.card_image_of_injective _ (nth_injective a)]
    have : (Finset.univ.filter fun k' : Fin n => k' < k) = Finset.Iio k := by ext x; simp
    rw [this, Fin.card_Iio]
  unfold count
  convert hcard

/-- The 64 first places are the kept positions. -/
theorem kept_nth (k : Fin n) : Kept a (nth a k) ↔ k.val < 64 := by
  unfold Kept; rw [count_before_nth]

/-- Values decrease along the sort. -/
theorem nth_anti {k k' : Fin n} (h : k ≤ k') : a (nth a k') ≤ a (nth a k) := by
  rcases lt_or_eq_of_le h with h | rfl
  · rcases nth_before a k k' h with h | ⟨h, _⟩
    · exact h.le
    · exact h.ge
  · exact le_rfl

/-- More than `k` positions hold at least the `k`-th value. -/
theorem lt_count_ge_nth (k : Fin n) : k.val < count (fun i => a (nth a k) ≤ a i) := by
  rw [← count_before_nth a k]
  refine count_lt (fun i h => ?_) (nth a k) le_rfl (Before.irrefl a _)
  rcases h with h | ⟨h, _⟩
  · exact h.le
  · exact h.ge

/-- At most `k` positions hold more than the `k`-th value. -/
theorem count_gt_nth_le (k : Fin n) : count (fun i => a (nth a k) < a i) ≤ k.val := by
  rw [← count_before_nth a k]
  exact count_mono fun i h => .inl h

end

end Cert.Row

end
-- ==== Proof.Scatter.lean ====
/- Reading the reference's sparse hidden matrix: the largest 64 values of every row scattered back to their positions. -/
module

public import proofs.«01_k».proof.Proof.Sorted
public import proofs.«01_k».proof.Proof.RefRun
public import Idealize.ShloMosaic.Lib.Pipeline.Value
public import Idealize.ShloMosaic.Lib.IdealHost

@[expose] public section

set_option maxRecDepth 16384

noncomputable section

namespace Cert.ReferenceIdeal.Own

open Idealize.ShloMosaic Cert.Row Cert.ReferenceIdeal
open Cert.ReferenceIdeal.Gen

/-- One row of a matrix of activations. -/
def line (x : FVec Ideal S4096x8192 .f32) (i : Fin 4096) (q : Fin 8192) : EReal := x (Shape.pair (d := ![4096, 8192]) i q)

/-- A fold of overwriting steps, where every step that lands at `p` writes the same value. -/
theorem foldl_set {ι β α : Type} [DecidableEq ι] (res : β → Option ι) (val : β → α) (p : ι) (v : α) (l : List β) (x : ι → α)
    (h : ∀ n ∈ l, res n = some p → val n = v) :
    (l.foldl (fun r n => match res n with
      | some i => fun i' => if i' = i then val n else r i'
      | none => r) x) p = open Classical in if ∃ n ∈ l, res n = some p then v else x p := by
  classical
  induction l generalizing x with
  | nil => simp
  | cons b l ih =>
    rw [List.foldl_cons, ih _ fun n hn => h n (List.mem_cons_of_mem b hn)]
    by_cases hl : ∃ n ∈ l, res n = some p
    · rw [if_pos hl, if_pos]
      obtain ⟨n, hn, he⟩ := hl
      exact ⟨n, List.mem_cons_of_mem b hn, he⟩
    · rw [if_neg hl]
      by_cases hb : res b = some p
      · rw [if_pos ⟨b, List.mem_cons_self .., hb⟩]
        simp only [hb, if_true]
        exact h b (List.mem_cons_self ..) hb
      · rw [if_neg]
        · cases hr : res b with
          | none => rfl
          | some i =>
            simp only []
            rw [if_neg]
            rintro rfl
            exact hb hr
        · rintro ⟨n, hn, he⟩
          rcases List.mem_cons.mp hn with rfl | hn
          · exact hb he
          · exact hl ⟨n, hn, he⟩

/-- An overwriting scatter read at `p`, where every update that lands at `p` is the same. -/
theorem scatter_set {s si u : Shape} {w : ℕ} {α : Type} (d : ScatterDims s si u) (x : s.Idx → α) (idx : IVec si w) (upd : u.Idx → α)
    (p : s.Idx) (v : α) (h : ∀ j, d.resultIdx? j idx = some p → upd j = v) :
    Host.scatter d (fun _ b => b) x idx upd p = open Classical in if ∃ j, d.resultIdx? j idx = some p then v else x p := by
  classical
  unfold Host.scatter
  have hf := foldl_set (fun n => d.resultIdx? (u.rowMajor.symm n) idx) (fun n => upd (u.rowMajor.symm n)) p v (List.finRange u.numel) x
    fun n _ he => h _ he
  refine Eq.trans ?_ (hf.trans ?_)
  · refine congrArg (fun f => List.foldl f x (List.finRange u.numel) p) ?_
    funext r n
    cases d.resultIdx? (u.rowMajor.symm n) idx with
    | none => rfl
    | some i => rfl
  · have hiff : (∃ n ∈ List.finRange u.numel, d.resultIdx? (u.rowMajor.symm n) idx = some p) ↔ ∃ j, d.resultIdx? j idx = some p := by
      constructor
      · rintro ⟨n, _, he⟩; exact ⟨_, he⟩
      · rintro ⟨j, he⟩; exact ⟨u.rowMajor j, List.mem_finRange _, by rw [Equiv.symm_apply_apply]; exact he⟩
    by_cases hc : ∃ j, d.resultIdx? j idx = some p
    · rw [if_pos hc, if_pos (hiff.mpr hc)]
    · rw [if_neg hc, if_neg fun h' => hc (hiff.mp h')]

/-- The operand entry an update lands at, where its two start indices are in range. -/
theorem lands (idx : IVec S4096x64x2 32) (j : S4096x64.Idx) (r : Fin 4096) (q : Fin 8192)
    (h0 : ∀ k : S4096x64x2.Idx, (k 0).val = (j 0).val → (k 1).val = (j 1).val → (k 2).val = 0 → (idx k).toInt = r.val)
    (h1 : ∀ k : S4096x64x2.Idx, (k 0).val = (j 0).val → (k 1).val = (j 1).val → (k 2).val = 1 → (idx k).toInt = q.val) :
    (scatter_S4096x8192_S4096x64x2_S4096x64_n_01_01_2 : ScatterDims S4096x8192 S4096x64x2 S4096x64).resultIdx? j idx
      = some (Shape.pair (d := ![4096, 8192]) r q) := by
  have hs : ∀ a, (scatter_S4096x8192_S4096x64x2_S4096x64_n_01_01_2 : ScatterDims S4096x8192 S4096x64x2 S4096x64).start j idx a
      + (scatter_S4096x8192_S4096x64x2_S4096x64_n_01_01_2 : ScatterDims S4096x8192 S4096x64x2 S4096x64).window j a
      = ((Shape.pair (d := ![4096, 8192]) r q a).val : ℤ) := by
    intro a
    match a with
    | ⟨0, _⟩ =>
      have hw : (scatter_S4096x8192_S4096x64x2_S4096x64_n_01_01_2 : ScatterDims S4096x8192 S4096x64x2 S4096x64).window j 0 = 0 := rfl
      have hst : (scatter_S4096x8192_S4096x64x2_S4096x64_n_01_01_2 : ScatterDims S4096x8192 S4096x64x2 S4096x64).start j idx 0
        = (r.val : ℤ) := by
        unfold ScatterDims.start
        rw [dif_pos (by decide)]
        exact h0 _ rfl rfl rfl
      show ScatterDims.start _ j idx 0 + ((ScatterDims.window _ j 0 : ℕ) : ℤ) = _
      rw [hw, hst]; simp [Shape.pair]
    | ⟨1, _⟩ =>
      have hw : (scatter_S4096x8192_S4096x64x2_S4096x64_n_01_01_2 : ScatterDims S4096x8192 S4096x64x2 S4096x64).window j 1 = 0 := rfl
      have hst : (scatter_S4096x8192_S4096x64x2_S4096x64_n_01_01_2 : ScatterDims S4096x8192 S4096x64x2 S4096x64).start j idx 1
        = (q.val : ℤ) := by
        unfold ScatterDims.start
        rw [dif_pos (by decide)]
        exact h1 _ rfl rfl rfl
      show ScatterDims.start _ j idx 1 + ((ScatterDims.window _ j 1 : ℕ) : ℤ) = _
      rw [hw, hst]; simp [Shape.pair]
  unfold ScatterDims.resultIdx?
  rw [dif_pos fun a => by rw [hs a]; exact ⟨by omega, by exact_mod_cast (Shape.pair (d := ![4096, 8192]) r q a).isLt⟩]
  congr 1
  funext a
  apply Fin.ext
  show (ScatterDims.start _ j idx a + ((ScatterDims.window _ j a : ℕ) : ℤ)).toNat = _
  rw [hs a]
  simp

end Cert.ReferenceIdeal.Own

end
-- ==== Proof.Table.lean ====
/- The reference's largest 64 (or 65) entries of every row, and its sparse hidden matrix read at an entry. -/
module

public import proofs.«01_k».proof.Proof.Scatter

@[expose] public section

set_option maxRecDepth 16384

noncomputable section

namespace Cert.ReferenceIdeal.Own

open Idealize.ShloMosaic Idealize.ShloMosaic.ValueIdx Cert.Row Cert.ReferenceIdeal
open Cert.ReferenceIdeal.Gen

/-- The entry of row `i` and column `q`. -/
def place (i : Fin 4096) (q : Fin 8192) : S4096x8192.Idx := Shape.pair (d := ![4096, 8192]) i q

/-- Replacing the column of an entry. -/
theorem along_one (i : Fin 4096) (q q' : Fin 8192) : (place i q).along (1 : Fin 2) q' = place i q' := by
  unfold Shape.Idx.along place
  funext a
  match a with
  | ⟨0, _⟩ => rfl
  | ⟨1, _⟩ => rfl

/-- The sort of a row, in the words of the matrix sorted. -/
theorem sorted_row (x : FVec Ideal S4096x8192 .f32) (i : Fin 4096) (q : Fin 8192) :
    sortedFrom (fun k k' => Ideal.cmpTotal .gt (x ((place i q).along (1 : Fin 2) k)) (x ((place i q).along (1 : Fin 2) k')) == 1#1) q
      = nth (line x i) q :=
  congrArg (fun f => sortedFrom f q) (funext fun k => funext fun k' =>
    congrArg₂ (fun u v => (Ideal.cmpTotal .gt (x u) (x v) == 1#1)) (along_one i q k) (along_one i q k'))

/-- The slice of the first columns reads the same entry. -/
theorem first_columns {K : ℕ} (hK : K ≤ 8192) (i : Fin 4096) (k : Fin K) (J : S4096x8192.Idx)
    (h : ∀ a : Fin 2, (J a).val = 0 + (Shape.pair (d := ![4096, K]) i k a).val) : J = place i (k.castLE hK) := by
  funext a
  apply Fin.ext
  rw [h a, Nat.zero_add]
  match a with
  | ⟨0, _⟩ => rfl
  | ⟨1, _⟩ => rfl

/-- The `k`-th value kept of a row is the row's at the `k`-th place of its sort. -/
theorem topK_value {K : ℕ} (hK : K ≤ 8192) (x : FVec Ideal S4096x8192 .f32) (h : S4096x8192.Slices (fun _ => 0) ⟨2, ![4096, K]⟩) (i : Fin 4096) (k : Fin K) :
    (Host.topK ⟨2, ![4096, K]⟩ 1 (FloatOps.cmpfTotal (F := Ideal) .gt) x h).1 (Shape.pair (d := ![4096, K]) i k)
      = line x i (nth (line x i) (k.castLE hK)) := by
  have hJ : ∃ J : S4096x8192.Idx, J = place i (k.castLE hK)
      ∧ (Host.topK ⟨2, ![4096, K]⟩ 1 (FloatOps.cmpfTotal (F := Ideal) .gt) x h).1 (Shape.pair (d := ![4096, K]) i k)
        = x (J.along (1 : Fin 2) (sortedFrom (fun k k' => Ideal.cmpTotal .gt (x (J.along (1 : Fin 2) k)) (x (J.along (1 : Fin 2) k')) == 1#1) (J (1 : Fin 2)))) :=
    ⟨_, first_columns hK i k _ fun a => rfl, rfl⟩
  obtain ⟨J, hJ, he⟩ := hJ
  subst hJ
  exact he.trans (congrArg x ((along_one i _ _).trans (congrArg (place i) (sorted_row x i _))))

/-- The iota along the columns reads the column. -/
theorem iota_place (i : Fin 4096) (q : Fin 8192) : iotaInDim S4096x8192 32 (1 : Fin 2) (place i q) = BitVec.ofNat 32 q.val := rfl

/-- Its index is that place. -/
theorem topK_index {K : ℕ} (hK : K ≤ 8192) (x : FVec Ideal S4096x8192 .f32) (h : S4096x8192.Slices (fun _ => 0) ⟨2, ![4096, K]⟩) (i : Fin 4096) (k : Fin K) :
    (Host.topK ⟨2, ![4096, K]⟩ 1 (FloatOps.cmpfTotal (F := Ideal) .gt) x h).2 (Shape.pair (d := ![4096, K]) i k)
      = BitVec.ofNat 32 (nth (line x i) (k.castLE hK)).val := by
  have hJ : ∃ J : S4096x8192.Idx, J = place i (k.castLE hK)
      ∧ (Host.topK ⟨2, ![4096, K]⟩ 1 (FloatOps.cmpfTotal (F := Ideal) .gt) x h).2 (Shape.pair (d := ![4096, K]) i k)
        = iotaInDim S4096x8192 32 (1 : Fin 2) (J.along (1 : Fin 2) (sortedFrom (fun k k' => Ideal.cmpTotal .gt (x (J.along (1 : Fin 2) k)) (x (J.along (1 : Fin 2) k')) == 1#1) (J (1 : Fin 2)))) :=
    ⟨_, first_columns hK i k _ fun a => rfl, rfl⟩
  obtain ⟨J, hJ, he⟩ := hJ
  subst hJ
  exact he.trans ((congrArg (iotaInDim S4096x8192 32 (1 : Fin 2)) ((along_one i _ _).trans (congrArg (place i) (sorted_row x i _)))).trans
    (iota_place i _))

/-- A select that adds `c` where negative leaves a small natural number as it is. -/
theorem wrap_keeps {s : Shape} (x z c : IVec s 32) (i : s.Idx) (n : ℕ) (hn : n < 2 ^ 31) (hz : z i = 0#32) (hx : x i = BitVec.ofNat 32 n) :
    select (α := BitVec 32) (cmpi .slt x z) (addi x c) x i = BitVec.ofNat 32 n := by
  have hc : ¬(cmpi .slt x z i = 1#1) := by
    show ¬(IntOp.cmpi .slt (x i) (z i) = 1#1)
    rw [hz, hx]
    have hs : (BitVec.ofNat 32 n).slt 0#32 = false := by
      rw [BitVec.slt_eq_decide, decide_eq_false_iff_not, BitVec.toInt_eq_toNat_cond, BitVec.toNat_ofNat, Nat.mod_eq_of_lt (by omega)]
      simp
      omega
    show ¬(BitVec.ofBool ((BitVec.ofNat 32 n).slt 0#32) = 1#1)
    rw [hs]
    decide
  show Scalar.select (cmpi .slt x z i) _ (x i) = _
  rw [hx]
  exact if_neg hc

/-- The reference's table of start indices: the row's number, and the column kept. -/
def starts (idx : IVec S4096x64 32) : IVec S4096x64x2 32 :=
  concatenate S4096x64x2 2 [⟨S4096x64x1, (broadcastInDim S4096x64x1 ![0, 1] bcast_S4096x64_S4096x64x1_0_1 (broadcastInDim S4096x64 ![0, 1] bcast_S4096x1_S4096x64_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩,
    ⟨S4096x64x1, (broadcastInDim S4096x64x1 ![0, 1] bcast_S4096x64_S4096x64x1_0_1 (select (cmpi .slt idx (broadcastInDim S4096x64 ![] bcast_S_S4096x64 (constantI S_ 32 0#32))) (addi idx (broadcastInDim S4096x64 ![] bcast_S_S4096x64 (constantI S_ 32 8192#32))) idx))⟩] concatenates_S4096x64x1_S4096x64x1_S4096x64x2_d2

/-- The index with a third coordinate of extent one. -/
def third (i : Fin 4096) (k : Fin 64) : S4096x64x1.Idx := fun a => match a with
  | ⟨0, _⟩ => i
  | ⟨1, _⟩ => k
  | ⟨2, _⟩ => (0 : Fin 1)

/-- The index of a rank-one array of rows. -/
def single (i : Fin 4096) : S4096.Idx := fun a => match a with
  | ⟨0, _⟩ => i

/-- A number below 8192 read back signed. -/
theorem small_toInt (n : ℕ) (hn : n < 2 ^ 31) : (BitVec.ofNat 32 n).toInt = n := by
  rw [BitVec.toInt_eq_toNat_cond, BitVec.toNat_ofNat, Nat.mod_eq_of_lt (by omega), if_pos (by omega)]

/-- The table's first components are the row numbers. -/
theorem starts_row (idx : IVec S4096x64 32) (i : Fin 4096) (k : Fin 64) (q : S4096x64x2.Idx)
    (h0 : (q 0).val = i.val) (h1 : (q 1).val = k.val) (h2 : (q 2).val = 0) : (starts idx q).toInt = i.val := by
  unfold starts
  rw [concatenate_pair_apply_left (t := S4096x64x2) (s₁ := S4096x64x1) (s₂ := S4096x64x1) (2 : Fin 3) _ _ _ q rfl (third i k) (fun b => by
    match b with
    | ⟨0, _⟩ => exact h0.symm
    | ⟨1, _⟩ => exact h1.symm
    | ⟨2, _⟩ => exact h2.symm)]
  rw [broadcastInDim_apply _ _ _ (third i k) (Shape.pair (d := ![4096, 64]) i k) (fun a => by
    match a with
    | ⟨0, _⟩ => rfl
    | ⟨1, _⟩ => rfl)]
  rw [broadcastInDim_apply _ _ _ (Shape.pair (d := ![4096, 64]) i k) (Shape.pair (d := ![4096, 1]) i (0 : Fin 1)) (fun a => by
    match a with
    | ⟨0, _⟩ => rfl
    | ⟨1, _⟩ => rfl)]
  have hi := i.isLt
  rw [wrap_keeps _ _ _ _ i.val (by omega) (broadcastInDim_scalar_apply ..) (by
    rw [broadcastInDim_apply _ _ _ (Shape.pair (d := ![4096, 1]) i (0 : Fin 1)) (single i) (fun a => by
      match a with
      | ⟨0, _⟩ => rfl)]
    rfl)]
  exact small_toInt _ (by omega)

/-- The table's second components are the columns, where they are small natural numbers. -/
theorem starts_col (idx : IVec S4096x64 32) (i : Fin 4096) (k : Fin 64) (q : S4096x64x2.Idx) (n : ℕ) (hn : n < 2 ^ 31)
    (hi : idx (Shape.pair (d := ![4096, 64]) i k) = BitVec.ofNat 32 n)
    (h0 : (q 0).val = i.val) (h1 : (q 1).val = k.val) (h2 : (q 2).val = 1) : (starts idx q).toInt = n := by
  unfold starts
  rw [concatenate_pair_apply_right (t := S4096x64x2) (s₁ := S4096x64x1) (s₂ := S4096x64x1) (2 : Fin 3) _ _ _ q rfl rfl (third i k) (fun b hb => by
    match b with
    | ⟨0, _⟩ => exact h0.symm
    | ⟨1, _⟩ => exact h1.symm
    | ⟨2, _⟩ => exact absurd rfl hb) (by rw [h2]; rfl)]
  rw [broadcastInDim_apply _ _ _ (third i k) (Shape.pair (d := ![4096, 64]) i k) (fun a => by
    match a with
    | ⟨0, _⟩ => rfl
    | ⟨1, _⟩ => rfl)]
  rw [wrap_keeps _ _ _ _ n hn (broadcastInDim_scalar_apply ..) hi]
  exact small_toInt _ hn

/-- The reference's sparse hidden matrix, as a function of the activations. -/
def sparse (x : FVec Ideal S4096x8192 .f32) : FVec Ideal S4096x8192 .f32 :=
  Host.scatter scatter_S4096x8192_S4096x64x2_S4096x64_n_01_01_2 (fun _ b => b)
    (broadcastInDim S4096x8192 ![] bcast_S_S4096x8192 (constant (F := Ideal) S_ .f32 0x00000000#32))
    (starts (Host.topK S4096x64 1 (FloatOps.cmpfTotal (F := Ideal) .gt) x sliceFits_S4096x8192_S4096x64).2)
    (Host.topK S4096x64 1 (FloatOps.cmpfTotal (F := Ideal) .gt) x sliceFits_S4096x8192_S4096x64).1

/-- Equal entries have equal rows and equal columns. -/
theorem pair_both (d : Fin 2 → ℕ) (r r' : Fin (d 0)) (c c' : Fin (d 1)) (h : Shape.pair (d := d) r c = Shape.pair (d := d) r' c') :
    r = r' ∧ c = c' := ⟨congrFun h 0, congrFun h 1⟩

theorem h64 : 64 ≤ 8192 := by decide

/-- THE REFERENCE'S SELECTION, one entry. -/
theorem sparse_entry (x : FVec Ideal S4096x8192 .f32) (i : Fin 4096) (q : Fin 8192) :
    line (sparse x) i q = Row.hidden (line x i) q := by
  classical
  have hl : ∀ (i' : Fin 4096) (k : Fin 64), (scatter_S4096x8192_S4096x64x2_S4096x64_n_01_01_2 : ScatterDims S4096x8192 S4096x64x2 S4096x64).resultIdx?
      (Shape.pair (d := ![4096, 64]) i' k) (starts (Host.topK S4096x64 1 (FloatOps.cmpfTotal (F := Ideal) .gt) x sliceFits_S4096x8192_S4096x64).2)
        = some (Shape.pair (d := ![4096, 8192]) i' (nth (line x i') (k.castLE h64))) := fun i' k =>
    lands _ _ _ _ (fun p h0 h1 h2 => starts_row _ i' k p h0 h1 h2)
      (fun p h0 h1 h2 => starts_col _ i' k p (nth (line x i') (k.castLE h64)).val ((nth (line x i') (k.castLE h64)).isLt.trans (by norm_num : 8192 < 2 ^ 31))
        (topK_index (K := 64) h64 x sliceFits_S4096x8192_S4096x64 i' k) h0 h1 h2)
  have hval : ∀ j : S4096x64.Idx, (scatter_S4096x8192_S4096x64x2_S4096x64_n_01_01_2 : ScatterDims S4096x8192 S4096x64x2 S4096x64).resultIdx?
      j (starts (Host.topK S4096x64 1 (FloatOps.cmpfTotal (F := Ideal) .gt) x sliceFits_S4096x8192_S4096x64).2) = some (Shape.pair (d := ![4096, 8192]) i q) →
      j 0 = i ∧ nth (line x i) ((j 1 : Fin 64).castLE h64) = q := by
    intro j hj
    have hj := Option.some.inj ((hl (j 0) (j 1)).symm.trans ((congrArg (fun j => (scatter_S4096x8192_S4096x64x2_S4096x64_n_01_01_2 : ScatterDims S4096x8192 S4096x64x2 S4096x64).resultIdx?
      j (starts (Host.topK S4096x64 1 (FloatOps.cmpfTotal (F := Ideal) .gt) x sliceFits_S4096x8192_S4096x64).2)) (Shape.pair_eta j)).trans hj))
    have h0 : (j 0 : Fin 4096) = i := (pair_both _ _ _ _ _ hj).1
    have h1 : nth (line x (j 0)) ((j 1 : Fin 64).castLE h64) = q := (pair_both _ _ _ _ _ hj).2
    refine ⟨h0, ?_⟩
    rw [h0] at h1
    exact h1
  unfold line sparse
  rw [scatter_set _ _ _ _ (Shape.pair (d := ![4096, 8192]) i q) (line x i q) (fun j hj => by
    obtain ⟨h0, h1⟩ := hval j hj
    rw [← Shape.pair_eta j]
    refine (topK_value (K := 64) h64 x sliceFits_S4096x8192_S4096x64 (j 0) (j 1)).trans ?_
    have h0' : (j 0 : Fin 4096) = i := h0
    rw [h0', h1])]
  unfold Row.hidden
  by_cases hk : Kept (line x i) q
  · obtain ⟨k, hkq⟩ := nth_surjective (line x i) q
    have hk64 : k.val < 64 := (kept_nth _ k).mp (hkq ▸ hk)
    rw [if_pos, if_pos]
    · rfl
    · exact hk
    · refine ⟨Shape.pair (d := ![4096, 64]) i ⟨k.val, hk64⟩, ?_⟩
      have : nth (line x i) ((⟨k.val, hk64⟩ : Fin 64).castLE h64) = q := hkq
      exact (hl i ⟨k.val, hk64⟩).trans (congrArg (fun t : Fin 8192 => some (Shape.pair (d := ![4096, 8192]) i t)) this)
  · rw [if_neg, if_neg]
    · exact (broadcastInDim_scalar_apply ..).trans (by
        show Ideal.ofBits .f32 0x00000000#32 = 0
        simp [Ideal.ofBits, Ideal.ieee])
    · exact hk
    · rintro ⟨j, hj⟩
      refine hk ?_
      rw [← (hval j hj).2]
      exact (kept_nth _ _).mpr (j 1).isLt

end Cert.ReferenceIdeal.Own

end
-- ==== Proof.Scale.lean ====
/- The gap between neighbouring single-precision values and the lower end of a value's cell, computed with powers of two and
   a floor as the precondition does. -/
module

public import proofs.«01_k».proof.Proof.Cells
public import Mathlib.Data.Finset.Fold

@[expose] public section

noncomputable section

namespace Cert.Cell

open Idealize.ShloMosaic

/-- A power of two as an extended real. -/
def two (e : ℤ) : EReal := (((2 : ℝ) ^ e : ℝ) : EReal)

theorem two_le {e e' : ℤ} : two e ≤ two e' ↔ e ≤ e' := by
  unfold two
  rw [EReal.coe_le_coe_iff]
  exact zpow_le_zpow_iff_right₀ (by norm_num)

theorem gap_two (n : ℕ) : ((gap n : ℝ) : EReal) = two ((ex n : ℤ) - 150) := rfl

/-- The significand is at most 24 bits long. -/
theorem mant_lt {n : ℕ} (h : n < top) : mant n < 2 ^ 24 := by
  unfold mant top at *
  split <;> omega

theorem ex_le {n : ℕ} (h : n < top) : ex n ≤ 254 := by
  unfold ex top at *
  omega

/-- A power of two not above a value of cell `n` is the hidden bit's at most. -/
theorem below {n : ℕ} (hn : n < top) {v : EReal} (h2 : v < val (n + 1) ∨ n + 1 = top) {e : ℤ} (he : e ≤ 127) (h : two e ≤ v) :
    e ≤ (ex n : ℤ) - 127 := by
  rcases h2 with h2 | h2
  · by_cases ht : n + 1 = top
    · have : ex n = 254 := by unfold ex; unfold top at ht; omega
      omega
    · have h3 : two e < val (n + 1) := lt_of_le_of_lt h h2
      have hn1 : n + 1 < top := by omega
      rw [val_succ hn1, val_coe hn, ← EReal.coe_add] at h3
      have h4 : (((mant n : ℝ) * gap n + gap n : ℝ) : EReal) ≤ two ((ex n : ℤ) - 126) := by
        unfold two
        rw [EReal.coe_le_coe_iff]
        have hm : (mant n : ℝ) + 1 ≤ 2 ^ 24 := by exact_mod_cast mant_lt hn
        have : (2 : ℝ) ^ ((ex n : ℤ) - 126) = 2 ^ 24 * gap n := by
          unfold gap
          rw [show ((ex n : ℤ) - 126) = ((24 : ℕ) : ℤ) + ((ex n : ℤ) - 150) from by push_cast; ring, zpow_add₀ (by norm_num), zpow_natCast]
        rw [this]
        nlinarith [gap_pos n]
      have h5 : ¬((ex n : ℤ) - 126 ≤ e) := fun hh => absurd (lt_of_lt_of_le h3 h4) (not_lt.mpr (two_le.mpr hh))
      omega
  · have : ex n = 254 := by unfold ex; unfold top at h2; omega
    omega

/-- Where there is a hidden bit, its power of two is not above the cell. -/
theorem hidden_bit {n : ℕ} (hn : n < top) (h0 : n / 2 ^ 23 ≠ 0) : two ((ex n : ℤ) - 127) ≤ val n := by
  rw [val_coe hn]
  unfold two
  rw [EReal.coe_le_coe_iff]
  have : (2 : ℝ) ^ ((ex n : ℤ) - 127) = 2 ^ 23 * gap n := by
    unfold gap
    rw [show ((ex n : ℤ) - 127) = ((23 : ℕ) : ℤ) + ((ex n : ℤ) - 150) from by push_cast; ring, zpow_add₀ (by norm_num), zpow_natCast]
  rw [this]
  have hm : (2 : ℝ) ^ 23 ≤ (mant n : ℝ) := by
    have : 2 ^ 23 ≤ mant n := by unfold mant; rw [if_neg h0]; omega
    exact_mod_cast this
  exact mul_le_mul_of_nonneg_right hm (gap_pos n).le

/-- THE GAP, as the largest of the scaled powers of two. -/
theorem scale_eq {n : ℕ} (hn : n < top) {v : EReal} (h1 : val n ≤ v) (h2 : v < val (n + 1) ∨ n + 1 = top) (f : Fin 254 → EReal)
    (hf : ∀ k : Fin 254, two ((k.val : ℤ) - 126) ≤ v → f k = two ((k.val : ℤ) - 149))
    (hf' : ∀ k : Fin 254, ¬two ((k.val : ℤ) - 126) ≤ v → f k = two (-149)) :
    Finset.univ.fold max ⊥ f = ((gap n : ℝ) : EReal) := by
  have hex : 1 ≤ ex n := le_max_right _ _
  rw [gap_two]
  apply le_antisymm
  · refine (Finset.fold_max_le _).mpr ⟨bot_le, fun k _ => ?_⟩
    by_cases hk : two ((k.val : ℤ) - 126) ≤ v
    · rw [hf k hk, two_le]
      have := below hn h2 (by have := k.isLt; omega) hk
      omega
    · rw [hf' k hk, two_le]
      omega
  · refine (Finset.le_fold_max _).mpr (.inr ?_)
    have hle := ex_le hn
    by_cases h0 : n / 2 ^ 23 = 0
    · have hone : ex n = 1 := by unfold ex; rw [h0]; rfl
      refine ⟨0, Finset.mem_univ _, ?_⟩
      by_cases hk : two (((0 : Fin 254).val : ℤ) - 126) ≤ v
      · rw [hf 0 hk, two_le, hone]; simp
      · rw [hf' 0 hk, two_le, hone]; simp
    · refine ⟨⟨ex n - 1, by omega⟩, Finset.mem_univ _, ?_⟩
      have he : (((⟨ex n - 1, by omega⟩ : Fin 254).val : ℤ)) - 126 = (ex n : ℤ) - 127 := by
        show ((ex n - 1 : ℕ) : ℤ) - 126 = _
        omega
      rw [hf _ (by rw [he]; exact (hidden_bit hn h0).trans h1), two_le]
      show (ex n : ℤ) - 150 ≤ ((ex n - 1 : ℕ) : ℤ) - 149
      omega

/-- THE CELL'S LOWER END, as the floor to a multiple of the gap capped at the greatest finite value. -/
theorem floor_eq {n : ℕ} (hn : n < top) {v : EReal} (h1 : val n ≤ v) (h2 : v < val (n + 1) ∨ n + 1 = top) :
    min (Ideal.liftRound Int.floor (Ideal.div v ((gap n : ℝ) : EReal)) * ((gap n : ℝ) : EReal)) (val (top - 1)) = val n := by
  have hg := gap_pos n
  rw [Ideal.div_coe hg.ne']
  have hcap : val n ≤ val (top - 1) := by
    rcases Nat.lt_or_ge n (top - 1) with h | h
    · exact (val_lt h (by omega)).le
    · rw [show n = top - 1 by omega]
  have hreal : ∀ r : ℝ, val n ≤ (r : EReal) → (mant n : ℤ) ≤ ⌊r * (1 / gap n)⌋ := by
    intro r hr
    rw [val_coe hn, EReal.coe_le_coe_iff] at hr
    rw [Int.le_floor, mul_one_div, le_div_iff₀ hg]
    exact_mod_cast hr
  have hprod : ∀ r : ℝ, Ideal.liftRound Int.floor ((r : EReal) * ((1 / gap n : ℝ) : EReal)) * ((gap n : ℝ) : EReal)
      = (((⌊r * (1 / gap n)⌋ : ℤ) : ℝ) * gap n : ℝ) := by
    intro r
    rw [← EReal.coe_mul, Ideal.liftRound_coe, ← EReal.coe_mul]
  by_cases ht : n + 1 = top
  · have hval : val n = val (top - 1) := by rw [← ht]; rfl
    rw [← hval]
    refine min_eq_right ?_
    induction v with
    | bot =>
      exfalso
      rw [val_coe hn] at h1
      exact absurd (le_bot_iff.mp h1) (EReal.coe_ne_bot _)
    | top =>
      rw [EReal.top_mul_coe_of_pos (by positivity), Ideal.liftRound_top, EReal.top_mul_coe_of_pos hg]
      exact le_top
    | coe r =>
      rw [hprod, val_coe hn, EReal.coe_le_coe_iff]
      have := hreal r h1
      exact mul_le_mul_of_nonneg_right (by exact_mod_cast this) hg.le
  · have hlt : v < val (n + 1) := h2.resolve_right ht
    have hn1 : n + 1 < top := by omega
    induction v with
    | bot =>
      exfalso
      rw [val_coe hn] at h1
      exact absurd (le_bot_iff.mp h1) (EReal.coe_ne_bot _)
    | top => exact absurd hlt (not_lt.mpr le_top)
    | coe r =>
      rw [hprod]
      have h3 : ⌊r * (1 / gap n)⌋ = (mant n : ℤ) := by
        apply le_antisymm _ (hreal r h1)
        rw [val_succ hn1, val_coe hn, ← EReal.coe_add, EReal.coe_lt_coe_iff] at hlt
        rw [← Int.lt_add_one_iff, Int.floor_lt, mul_one_div, div_lt_iff₀ hg]
        push_cast
        linarith
      rw [h3]
      refine (min_eq_left ?_).trans ?_
      · rw [val_coe hn] at hcap; exact_mod_cast hcap
      · rw [val_coe hn]; simp

/-- The cell's upper end is the lower end plus the gap. -/
theorem upper_eq {n : ℕ} (h : n + 1 < top) : val n + ((gap n : ℝ) : EReal) = val (n + 1) := (val_succ h).symm

/-- The greatest finite value is the last cell's lower end only. -/
theorem last_iff {n : ℕ} (hn : n < top) : val n = val (top - 1) ↔ n + 1 = top := by
  constructor
  · intro h
    by_contra hne
    exact absurd h (val_lt (by omega) (by omega)).ne
  · intro h
    rw [show n = top - 1 by omega]

end Cert.Cell

end
-- ==== Proof.PreRead.lean ====
/- The precondition read at a row: the two largest entries it looks at, the powers of two, the gap and the cell. -/
module

public import proofs.«01_k».proof.Proof.Reads
public import proofs.«01_k».proof.Proof.Table
public import proofs.«01_k».proof.Proof.Scale

@[expose] public section

set_option maxRecDepth 16384

noncomputable section

namespace Cert.Pre_same_float_cell.Own

open Idealize.ShloMosaic Idealize.ShloMosaic.ValueIdx Cert.Row Cert.Pre_same_float_cell
open Cert.Pre_same_float_cell.Facts
open Cert.KernelIdeal.Own (pick_pos pick_neg ole_iff ogt_iff olt_iff oeq_iff or_iff and_iff bit_cases lit_0)
open Cert.ReferenceIdeal.Own (line place topK_value)

variable [Cert.Pre_same_float_cell.Facts]

/-- The row entry of a one-column matrix. -/
def ent (r : Fin 4096) : S4096x1.Idx := Shape.pair (d := ![4096, 1]) r (0 : Fin 1)

/-- The index of a rank-one array of rows. -/
def spot (r : Fin 4096) : S4096.Idx := fun a => match a with
  | ⟨0, _⟩ => r

/-- The entry of one row of powers. -/
def pow1 (k : Fin 254) : S1x254.Idx := Shape.pair (d := ![1, 254]) (0 : Fin 1) k

/-- An entry of the table of powers. -/
def powr (r : Fin 4096) (k : Fin 254) : S4096x254.Idx := Shape.pair (d := ![4096, 254]) r k

/-- The index of a rank-one array of powers. -/
def pow0 (k : Fin 254) : S254.Idx := fun a => match a with
  | ⟨0, _⟩ => k

/-- The 65 largest of every row. -/
def top65 (x : FVec Ideal S4096x8192 .f32) : FVec Ideal S4096x65 .f32 :=
  (Host.topK S4096x65 1 (FloatOps.cmpfTotal (F := Ideal) .gt) x sliceFits_S4096x8192_S4096x65).1

/-- The 64th largest. -/
def last (x : FVec Ideal S4096x8192 .f32) : FVec Ideal S4096x1 .f32 := extractStridedSlice S4096x1 ![0, 63] (top65 x) slices_S4096x65_S4096x1_0_63

/-- The 65th largest. -/
def next (x : FVec Ideal S4096x8192 .f32) : FVec Ideal S4096x1 .f32 := extractStridedSlice S4096x1 ![0, 64] (top65 x) slices_S4096x65_S4096x1_0_64

/-- The exponents. -/
def expo : FVec Ideal S1x254 .f32 :=
  broadcastInDim S1x254 ![1] bcast_S254_S1x254_1 (addf (broadcastInDim S254 ![] bcast_S_S254 (constant (F := Ideal) S_ .f32 0xC2FC0000#32))
    (sitofp (F := Ideal) .f32 (iotaInDim S254 32 0)))

/-- Their powers of two. -/
def powers : FVec Ideal S1x254 .f32 :=
  Host.powf (broadcastInDim S1x254 ![] bcast_S_S1x254 (constant (F := Ideal) S_ .f32 0x40000000#32)) expo

/-- The powers of two 23 below. -/
def gaps : FVec Ideal S1x254 .f32 :=
  Host.powf (broadcastInDim S1x254 ![] bcast_S_S1x254 (constant (F := Ideal) S_ .f32 0x40000000#32))
    (subf expo (broadcastInDim S1x254 ![] bcast_S_S1x254 (constant (F := Ideal) S_ .f32 0x41B80000#32)))

/-- Which powers are not above the 64th largest. -/
def under (v : FVec Ideal S4096x1 .f32) : IVec S4096x254 1 :=
  cmpf (F := Ideal) .ole (broadcastInDim S4096x254 ![0, 1] bcast_S1x254_S4096x254_0_1 powers) (broadcastInDim S4096x254 ![0, 1] bcast_S4096x1_S4096x254_0_1 v)

/-- The gap at the 64th largest. -/
def stepOf (v : FVec Ideal S4096x1 .f32) : FVec Ideal S4096x1 .f32 :=
  broadcastInDim S4096x1 ![0] bcast_S4096_S4096x1_0 (Host.reduce (FloatOps.maximumf (F := Ideal) (φ := .f32))
    (fn_where (F := Ideal) (under v) gaps (constant (F := Ideal) S_ .f32 0x00000001#32)) (constant (F := Ideal) S_ .f32 0xFF800000#32)
    reducesTo_S4096x254_S4096_d1 h_S_)

/-- The cell's lower end. -/
def baseOf (v : FVec Ideal S4096x1 .f32) : FVec Ideal S4096x1 .f32 :=
  minimumf (mulf (Host.floor (Host.divf v (stepOf v))) (stepOf v)) (broadcastInDim S4096x1 ![] bcast_S_S4096x1 (constant (F := Ideal) S_ .f32 0x7F7FFFFF#32))

/-- Whether the cell is the last. -/
def lastCell (v : FVec Ideal S4096x1 .f32) : IVec S4096x1 1 :=
  cmpf (F := Ideal) .oeq (baseOf v) (broadcastInDim S4096x1 ![] bcast_S_S4096x1 (constant (F := Ideal) S_ .f32 0x7F7FFFFF#32))

/-- Which entries are strictly inside the cell. -/
def insideOf (x : FVec Ideal S4096x8192 .f32) (v : FVec Ideal S4096x1 .f32) : IVec S4096x8192 1 :=
  andi (cmpf (F := Ideal) .ogt x (broadcastInDim S4096x8192 ![0, 1] bcast_S4096x1_S4096x8192_0_1 (baseOf v)))
    (ori (cmpf (F := Ideal) .olt x (broadcastInDim S4096x8192 ![0, 1] bcast_S4096x1_S4096x8192_0_1 (addf (baseOf v) (stepOf v))))
      (broadcastInDim S4096x8192 ![0, 1] bcast_S4096x1_S4096x8192_0_1 (lastCell v)))

/-- Whether any is. -/
def anyOf (x : FVec Ideal S4096x8192 .f32) (v : FVec Ideal S4096x1 .f32) : IVec S4096 1 :=
  Host.reduce IntOp.ori (insideOf x v) (constantI S_ 1 0#1) reducesTo_S4096x8192_S4096_d1 h_S_

/-- The precondition, as a function of the activations. -/
def okOf (x : FVec Ideal S4096x8192 .f32) : IVec S4096x1 1 :=
  ori (ori (cmpf (F := Ideal) .oeq (next x) (broadcastInDim S4096x1 ![] bcast_S_S4096x1 (constant (F := Ideal) S_ .f32 0x00000000#32)))
    (cmpf (F := Ideal) .olt (next x) (baseOf (last x)))) (noti (broadcastInDim S4096x1 ![0] bcast_S4096_S4096x1_0 (anyOf x (last x))))

/-- The activations. -/
def acts (a0 : FVec Ideal S4096x1024 .f32) (a1 : FVec Ideal S8192x1024 .f32) (a2 : FVec Ideal S8192 .f32) (a4 : FVec Ideal S1024 .f32) :
    FVec Ideal S4096x8192 .f32 :=
  maximumf (addf (Host.dotGeneral dot_S4096x1024_S1024x8192_S4096x8192_1_0_0_1_n_n none
      (subf a0 (broadcastInDim S4096x1024 ![0, 1] bcast_S1x1024_S4096x1024_0_1 (broadcastInDim S1x1024 ![1] bcast_S1024_S1x1024_1 a4)))
      (transpose S1024x8192 [1, 0] a1 transposes_S8192x1024_S1024x8192_1_0))
    (broadcastInDim S4096x8192 ![0, 1] bcast_S1x8192_S4096x8192_0_1 (broadcastInDim S1x8192 ![1] bcast_S8192_S1x8192_1 a2)))
    (broadcastInDim S4096x8192 ![] bcast_S_S4096x8192 (constant (F := Ideal) S_ .f32 0x00000000#32))

/-- The precondition is its function of the activations. -/
theorem fn_eq (a0 : FVec Ideal S4096x1024 .f32) (a1 : FVec Ideal S8192x1024 .f32) (a2 : FVec Ideal S8192 .f32) (a3 : FVec Ideal S1024x8192 .f32)
    (a4 : FVec Ideal S1024 .f32) : fn (F := Ideal) a0 a1 a2 a3 a4 = okOf (acts a0 a1 a2 a4) := rfl

/-- A column spread over a row reads the row's entry. -/
theorem spread254 {α : Type} (h : S4096x1.BroadcastsInDim S4096x254 (![0, 1] : Fin 2 → Fin 2)) (v : S4096x1.Idx → α) (r : Fin 4096) (k : Fin 254) :
    broadcastInDim S4096x254 ![0, 1] h v (powr r k) = v (ent r) :=
  broadcastInDim_apply _ _ _ (powr r k) (ent r) (fun a => by
    match a with
    | ⟨0, _⟩ => rfl
    | ⟨1, _⟩ => rfl)

/-- A row of powers spread over the rows reads the power. -/
theorem spreadPow {α : Type} (h : S1x254.BroadcastsInDim S4096x254 (![0, 1] : Fin 2 → Fin 2)) (v : S1x254.Idx → α) (r : Fin 4096) (k : Fin 254) :
    broadcastInDim S4096x254 ![0, 1] h v (powr r k) = v (pow1 k) :=
  broadcastInDim_apply _ _ _ (powr r k) (pow1 k) (fun a => by
    match a with
    | ⟨0, _⟩ => rfl
    | ⟨1, _⟩ => rfl)

/-- A column spread over all of a row's entries reads the row's. -/
theorem spread8192 {α : Type} (h : S4096x1.BroadcastsInDim S4096x8192 (![0, 1] : Fin 2 → Fin 2)) (v : S4096x1.Idx → α) (r : Fin 4096) (q : Fin 8192) :
    broadcastInDim S4096x8192 ![0, 1] h v (place r q) = v (ent r) :=
  broadcastInDim_apply _ _ _ (place r q) (ent r) (fun a => by
    match a with
    | ⟨0, _⟩ => rfl
    | ⟨1, _⟩ => rfl)

/-- A rank-one array of rows read as a column. -/
theorem column {α : Type} (h : S4096.BroadcastsInDim S4096x1 (![0] : Fin 1 → Fin 2)) (v : S4096.Idx → α) (r : Fin 4096) :
    broadcastInDim S4096x1 ![0] h v (ent r) = v (spot r) :=
  broadcastInDim_apply _ _ _ (ent r) (spot r) (fun a => by
    match a with
    | ⟨0, _⟩ => rfl)

section
variable {s : Shape} (x y : FVec Ideal s .f32) (i : s.Idx)
theorem min_at : minimumf x y i = min (x i) (y i) := rfl
theorem mul_at : mulf x y i = x i * y i := rfl
theorem add_at : addf x y i = x i + y i := rfl
theorem sub_at : subf x y i = x i - y i := rfl
theorem div_at : Host.divf x y i = Ideal.div (x i) (y i) := rfl
theorem floor_at : Host.floor x i = Ideal.liftRound Int.floor (x i) := rfl
theorem pow_at : Host.powf x y i = Ideal.pow (x i) (y i) := rfl
theorem ole_at : cmpf (F := Ideal) .ole x y i = 1#1 ↔ x i ≤ y i := ole_iff _ _
theorem olt_at : cmpf (F := Ideal) .olt x y i = 1#1 ↔ x i < y i := olt_iff _ _
theorem ogt_at : cmpf (F := Ideal) .ogt x y i = 1#1 ↔ y i < x i := ogt_iff _ _
theorem oeq_at : cmpf (F := Ideal) .oeq x y i = 1#1 ↔ x i = y i := oeq_iff _ _
theorem or_at (b c : IVec s 1) : ori b c i = 1#1 ↔ b i = 1#1 ∨ c i = 1#1 := or_iff _ _
theorem and_at (b c : IVec s 1) : andi b c i = 1#1 ↔ b i = 1#1 ∧ c i = 1#1 := and_iff _ _
theorem not_at (b : IVec s 1) : noti b i = ~~~(b i) := rfl
end

/-- A constant spread over any shape reads its value. -/
theorem const_read {T : Shape} (h : S_.BroadcastsInDim T ![]) (b : BitVec 32) (j : T.Idx) (y : EReal) (hy : Ideal.ofBits .f32 b = y) :
    broadcastInDim T ![] h (constant (F := Ideal) S_ .f32 b) j = y := (broadcastInDim_scalar_apply ..).trans hy

/-- The constant 2. -/
theorem lit_2 : Ideal.ofBits .f32 0x40000000#32 = ((2 : ℝ) : EReal) := by
  have h : (0x40000000#32 : BitVec 32) = BitVec.ofNat 32 1073741824 := by decide
  rw [h]; refine (Cell.val_coe (n := 1073741824) (by norm_num [Cell.top])).trans ?_
  norm_num [Cell.mant, Cell.gap, Cell.ex]

/-- The constant 23. -/
theorem lit_23 : Ideal.ofBits .f32 0x41B80000#32 = ((23 : ℝ) : EReal) := by
  have h : (0x41B80000#32 : BitVec 32) = BitVec.ofNat 32 1102577664 := by decide
  rw [h]; refine (Cell.val_coe (n := 1102577664) (by norm_num [Cell.top])).trans ?_
  norm_num [Cell.mant, Cell.gap, Cell.ex]

/-- The constant -126. -/
theorem lit_m126 : Ideal.ofBits .f32 0xC2FC0000#32 = ((-126 : ℝ) : EReal) := by
  show Ideal.ieee 8 23 0xC2FC0000#32 = _
  have h1 : (0xC2FC0000#32 : BitVec 32).extractLsb' 31 1 = 1#1 := by decide
  have h2 : ((0xC2FC0000#32 : BitVec 32).extractLsb' 23 8).toNat = 133 := by decide
  have h3 : ((0xC2FC0000#32 : BitVec 32).extractLsb' 0 23).toNat = 8126464 := by decide
  unfold Ideal.ieee
  simp only [h1, h2, h3]
  norm_num

/-- The least positive value. -/
theorem lit_tiny : Ideal.ofBits .f32 0x00000001#32 = Cell.two (-149) := by
  refine (Cell.val_coe (n := 1) (by norm_num [Cell.top])).trans ?_
  norm_num [Cell.mant, Cell.gap, Cell.ex, Cell.two]

/-- The greatest finite value. -/
theorem lit_max : Ideal.ofBits .f32 0x7F7FFFFF#32 = Cell.val (Cell.top - 1) := rfl

/-- Minus infinity. -/
theorem lit_bot : Ideal.ofBits .f32 0xFF800000#32 = ⊥ := by
  show Ideal.ieee 8 23 0xFF800000#32 = _
  unfold Ideal.ieee
  rw [if_pos (by decide), if_pos (by decide), if_pos (by decide)]

/-- The exponents are the integers from -126. -/
theorem expo_read (k : Fin 254) : expo (pow1 k) = (((k.val : ℝ) - 126 : ℝ) : EReal) := by
  unfold expo
  rw [broadcastInDim_apply _ _ _ (pow1 k) (pow0 k) (fun a => by
    match a with
    | ⟨0, _⟩ => rfl)]
  have h1 : broadcastInDim S254 ![] bcast_S_S254 (constant (F := Ideal) S_ .f32 0xC2FC0000#32) (pow0 k) = ((-126 : ℝ) : EReal) :=
    const_read _ _ _ _ lit_m126
  have h2 : sitofp (F := Ideal) .f32 (iotaInDim S254 32 0) (pow0 k) = ((k.val : ℝ) : EReal) := by
    have h3 : sitofp (F := Ideal) .f32 (iotaInDim S254 32 0) (pow0 k) = (((BitVec.ofNat 32 k.val).toInt : ℝ) : EReal) := rfl
    rw [h3, Cert.ReferenceIdeal.Own.small_toInt _ (by have := k.isLt; omega)]
    simp
  show broadcastInDim S254 ![] bcast_S_S254 (constant (F := Ideal) S_ .f32 0xC2FC0000#32) (pow0 k) + sitofp (F := Ideal) .f32 (iotaInDim S254 32 0) (pow0 k) = _
  rw [h1, h2, ← EReal.coe_add]
  congr 1
  ring

/-- A real power of two at an integer exponent. -/
theorem pow_two (y : ℝ) (e : ℤ) (h : y = e) : Ideal.pow ((2 : ℝ) : EReal) (y : EReal) = Cell.two e := by
  rw [Ideal.pow_coe_coe, h]
  unfold Cell.two
  congr 1
  exact Real.rpow_intCast 2 e

theorem powers_read (k : Fin 254) : powers (pow1 k) = Cell.two ((k.val : ℤ) - 126) := by
  unfold powers
  rw [pow_at, expo_read, const_read _ _ _ _ lit_2]
  exact pow_two _ _ (by push_cast; ring)

theorem gaps_read (k : Fin 254) : gaps (pow1 k) = Cell.two ((k.val : ℤ) - 149) := by
  unfold gaps
  rw [pow_at, sub_at, expo_read, const_read _ _ _ _ lit_2, const_read _ _ _ _ lit_23, ← EReal.coe_sub]
  exact pow_two _ _ (by push_cast; ring)

/-- The greatest entry of a row of 254. -/
theorem rowmax_read (h : S4096x254.ReducesTo [1] S4096) (hu : 0 < S_.numel) (g : S4096x254.Idx → EReal) (b : S_.Idx → EReal) (r : Fin 4096)
    (hb : b (Shape.Idx.first hu) = ⊥) :
    Host.reduce (max : EReal → EReal → EReal) g b h hu (spot r) = Finset.univ.fold max ⊥ (fun k : Fin 254 => g (powr r k)) := by
  have hr : S4096x254.Reduces [1] S4096 := by decide
  have hl : ∀ k : Fin 254, hr.lift (spot r) k = powr r k := by
    intro k
    funext a
    match a with
    | 0 => rfl
    | 1 => rfl
  rw [Host.reduce_eq_fold_single _ _ _ _ hr, hb]
  exact congrArg (fun f : Fin 254 → EReal => Finset.fold max ⊥ f Finset.univ) (funext fun k => congrArg g (hl k))

/-- The entry the greatest is taken of, where the power is not above the value. -/
theorem where_pos (c : IVec S4096x254 1) (g : FVec Ideal S1x254 .f32) (z : FVec Ideal S_ .f32) (r : Fin 4096) (k : Fin 254) (h : c (powr r k) = 1#1) :
    fn_where (F := Ideal) c g z (powr r k) = g (pow1 k) := by
  unfold fn_where
  exact (pick_pos _ _ _ _ h).trans (spreadPow _ _ r k)

/-- and where it is. -/
theorem where_neg (c : IVec S4096x254 1) (g : FVec Ideal S1x254 .f32) (b : BitVec 32) (r : Fin 4096) (k : Fin 254) (h : ¬c (powr r k) = 1#1)
    (y : EReal) (hy : Ideal.ofBits .f32 b = y) : fn_where (F := Ideal) c g (constant (F := Ideal) S_ .f32 b) (powr r k) = y := by
  unfold fn_where
  exact (pick_neg _ _ _ _ h).trans (const_read _ _ _ _ hy)

/-- A power is marked where it is not above the value. -/
theorem under_iff (v : FVec Ideal S4096x1 .f32) (r : Fin 4096) (k : Fin 254) :
    under v (powr r k) = 1#1 ↔ Cell.two ((k.val : ℤ) - 126) ≤ v (ent r) := by
  unfold under
  refine (ole_at _ _ _).trans ?_
  rw [spreadPow, powers_read, spread254]

/-- THE GAP is the gap of the cell. -/
theorem stepOf_read (v : FVec Ideal S4096x1 .f32) (r : Fin 4096) {n : ℕ} (hn : n < Cell.top) (h1 : Cell.val n ≤ v (ent r))
    (h2 : v (ent r) < Cell.val (n + 1) ∨ n + 1 = Cell.top) : stepOf v (ent r) = ((Cell.gap n : ℝ) : EReal) := by
  unfold stepOf
  rw [column]
  refine (rowmax_read _ _ _ _ r lit_bot).trans (Cell.scale_eq hn h1 h2 _ (fun k hk => ?_) (fun k hk => ?_))
  · exact (where_pos _ _ _ r k ((under_iff v r k).mpr hk)).trans (gaps_read k)
  · exact where_neg _ _ _ r k (fun h => hk ((under_iff v r k).mp h)) _ lit_tiny

/-- THE CELL'S LOWER END. -/
theorem baseOf_read (v : FVec Ideal S4096x1 .f32) (r : Fin 4096) {n : ℕ} (hn : n < Cell.top) (h1 : Cell.val n ≤ v (ent r))
    (h2 : v (ent r) < Cell.val (n + 1) ∨ n + 1 = Cell.top) : baseOf v (ent r) = Cell.val n := by
  unfold baseOf
  rw [min_at, mul_at, floor_at, div_at, stepOf_read v r hn h1 h2, const_read _ _ _ _ lit_max]
  exact Cell.floor_eq hn h1 h2

/-- The last cell's mark. -/
theorem lastCell_read (v : FVec Ideal S4096x1 .f32) (r : Fin 4096) {n : ℕ} (hn : n < Cell.top) (h1 : Cell.val n ≤ v (ent r))
    (h2 : v (ent r) < Cell.val (n + 1) ∨ n + 1 = Cell.top) : lastCell v (ent r) = 1#1 ↔ n + 1 = Cell.top := by
  unfold lastCell
  refine (oeq_at _ _ _).trans ?_
  rw [baseOf_read v r hn h1 h2, const_read _ _ _ _ lit_max]
  exact Cell.last_iff hn

/-- An entry is marked inside where it is above the lower end and below the upper. -/
theorem insideOf_read (x : FVec Ideal S4096x8192 .f32) (v : FVec Ideal S4096x1 .f32) (r : Fin 4096) (q : Fin 8192) {n : ℕ} (hn : n < Cell.top)
    (h1 : Cell.val n ≤ v (ent r)) (h2 : v (ent r) < Cell.val (n + 1) ∨ n + 1 = Cell.top)
    (h : Cell.val n < line x r q ∧ (line x r q < Cell.val (n + 1) ∨ n + 1 = Cell.top)) : insideOf x v (place r q) = 1#1 := by
  unfold insideOf
  refine (and_at _ _ _).mpr ⟨(ogt_at _ _ _).mpr ?_, (or_at _ _ _).mpr ?_⟩
  · rw [spread8192, baseOf_read v r hn h1 h2]; exact h.1
  · by_cases ht : n + 1 = Cell.top
    · right
      rw [spread8192]
      exact (lastCell_read v r hn h1 h2).mpr ht
    · left
      refine (olt_at _ _ _).mpr ?_
      rw [spread8192, add_at, baseOf_read v r hn h1 h2, stepOf_read v r hn h1 h2, Cell.upper_eq (by omega)]
      exact h.2.resolve_right ht

/-- A fold of "or" is set where one of its bits is. -/
theorem fold_or {ι : Type} [DecidableEq ι] (s : Finset ι) (g : ι → BitVec 1) (b : BitVec 1) (k : ι) (hk : k ∈ s) (h : g k = 1#1) :
    s.fold IntOp.ori b g = 1#1 := by
  rw [← Finset.insert_erase hk, Finset.fold_insert (Finset.notMem_erase k s)]
  exact (or_iff _ _).mpr (.inl h)

/-- One entry inside marks the row. -/
theorem anyOf_read (x : FVec Ideal S4096x8192 .f32) (v : FVec Ideal S4096x1 .f32) (r : Fin 4096) (q : Fin 8192) (h : insideOf x v (place r q) = 1#1) :
    anyOf x v (spot r) = 1#1 := by
  unfold anyOf
  have hr : S4096x8192.Reduces [1] S4096 := by decide
  refine (Host.reduce_eq_fold_single _ _ _ _ hr _ _).trans ?_
  have hl : hr.lift (spot r) q = place r q := by
    funext a
    match a with
    | 0 => rfl
    | 1 => rfl
  exact fold_or _ _ _ q (Finset.mem_univ _) ((congrArg (insideOf x v) hl).trans h)

/-- The 64th largest entry of a row. -/
theorem last_read (x : FVec Ideal S4096x8192 .f32) (r : Fin 4096) : last x (ent r) = line x r (nth (line x r) ⟨63, by decide⟩) := by
  have hJ : ∃ J : S4096x65.Idx, J = Shape.pair (d := ![4096, 65]) r (⟨63, by decide⟩ : Fin 65) ∧ last x (ent r) = top65 x J := by
    refine ⟨_, ?_, rfl⟩
    funext a
    apply Fin.ext
    match a with
    | ⟨0, _⟩ => exact Nat.zero_add _
    | ⟨1, _⟩ => rfl
  obtain ⟨J, hJ, he⟩ := hJ
  rw [he, hJ]
  exact topK_value (K := 65) (by decide) x _ r ⟨63, by decide⟩

/-- The 65th largest entry of a row. -/
theorem next_read (x : FVec Ideal S4096x8192 .f32) (r : Fin 4096) : next x (ent r) = line x r (nth (line x r) ⟨64, by decide⟩) := by
  have hJ : ∃ J : S4096x65.Idx, J = Shape.pair (d := ![4096, 65]) r (⟨64, by decide⟩ : Fin 65) ∧ next x (ent r) = top65 x J := by
    refine ⟨_, ?_, rfl⟩
    funext a
    apply Fin.ext
    match a with
    | ⟨0, _⟩ => exact Nat.zero_add _
    | ⟨1, _⟩ => rfl
  obtain ⟨J, hJ, he⟩ := hJ
  rw [he, hJ]
  exact topK_value (K := 65) (by decide) x _ r ⟨64, by decide⟩

/-- THE PRECONDITION AT A ROW: whatever cell the bisection finds, no value is strictly inside it or no cut is needed. -/
theorem separated (x : FVec Ideal S4096x8192 .f32) (r : Fin 4096) (h : okOf x (ent r) = 1#1) {n N M : ℕ} (hn : n < Cell.top)
    (hf : Found (line x r) (Cell.val n) (Cell.val (n + 1)) (n + 1 = Cell.top) N M) :
    Separated (line x r) (Cell.val n) (Cell.val (n + 1)) (n + 1 = Cell.top) := by
  have h1 : Cell.val n ≤ last x (ent r) := by
    rw [last_read]
    by_contra hlt
    rw [not_le] at hlt
    have hc : countGe (line x r) (Cell.val n) ≤ count (fun i => line x r (nth (line x r) ⟨63, by decide⟩) < line x r i) :=
      count_mono fun i hi => lt_of_lt_of_le hlt hi
    have hc2 := count_gt_nth_le (line x r) ⟨63, by decide⟩
    have hlo := hf.lo_ge
    rw [hf.lo_eq] at hlo
    have : 64 ≤ 63 := hlo.trans (hc.trans hc2)
    omega
  have h2 : last x (ent r) < Cell.val (n + 1) ∨ n + 1 = Cell.top := by
    rcases hf.hi with ⟨he, _⟩ | ⟨_, hM, hM64⟩
    · exact .inr he
    · left
      rw [last_read]
      by_contra hge
      rw [not_lt] at hge
      have hc : count (fun i => line x r (nth (line x r) ⟨63, by decide⟩) ≤ line x r i) ≤ countGe (line x r) (Cell.val (n + 1)) :=
        count_mono fun i hi => hge.trans hi
      have hc2 := lt_count_ge_nth (line x r) ⟨63, by decide⟩
      have : 63 < M := hM ▸ lt_of_lt_of_le hc2 hc
      omega
  unfold okOf at h
  rcases (or_at _ _ _).mp h with h' | h'
  · rcases (or_at _ _ _).mp h' with h'' | h''
    · left
      have hw := (oeq_at _ _ _).mp h''
      rw [const_read _ _ _ _ lit_0, next_read] at hw
      have hc := count_gt_nth_le (line x r) ⟨64, by decide⟩
      rw [hw] at hc
      exact hc
    · right; left
      have hw := (olt_at _ _ _).mp h''
      rw [baseOf_read _ r hn h1 h2, next_read] at hw
      exact (count_mono fun i hi => lt_of_lt_of_le hw hi).trans (count_gt_nth_le (line x r) ⟨64, by decide⟩)
  · right; right
    intro q hq
    have ha := anyOf_read x (last x) r q (insideOf_read x (last x) r q hn h1 h2 hq)
    rw [not_at, column, ha] at h'
    exact absurd h' (by decide)

/-- The activations are not negative. -/
theorem acts_nonneg (a0 : FVec Ideal S4096x1024 .f32) (a1 : FVec Ideal S8192x1024 .f32) (a2 : FVec Ideal S8192 .f32) (a4 : FVec Ideal S1024 .f32)
    (r : Fin 4096) (q : Fin 8192) : 0 ≤ line (acts a0 a1 a2 a4) r q := by
  have h : ∃ y : EReal, line (acts a0 a1 a2 a4) r q = max y (broadcastInDim S4096x8192 ![] bcast_S_S4096x8192 (constant (F := Ideal) S_ .f32 0x00000000#32) (place r q)) :=
    ⟨_, rfl⟩
  obtain ⟨y, hy⟩ := h
  rw [hy, const_read _ _ _ _ lit_0]
  exact le_max_right _ _

end Cert.Pre_same_float_cell.Own

end
-- ==== Proof.EncodeValue.lean ====
/- The first kernel call read at the extended reals: its result is the reference's activations. -/
module

public import proofs.«01_k».proof.Proof.Run
public import proofs.«01_k».proof.Proof.PreRead
public import Idealize.ShloMosaic.Lib.Pointwise

@[expose] public section

set_option maxRecDepth 16384

noncomputable section

namespace Cert.KernelIdeal.Own

open Gen
open Idealize.ShloMosaic Idealize.ShloMosaic.TcCoe
open Idealize.ShloMosaic.Pipeline (Dat Cfg Window)

variable (m : (ℓ : Loc nD τ sig) → Buf (Elt Ideal) ℓ) (ρ : Dev nD → PrngReg)

/-- The encoder weights as the first call finds them: transposed. -/
theorem enc_weights (c : Dev nD) : V1 m ρ c main_v0
    = transpose S1024x8192 [1, 0] (m ((c : Thread nD τ).loc main_arg1)) transposes_S8192x1024_S1024x8192_1_0 := rfl

/-- The decoder weights as the last call finds them: transposed, and narrowed, which over the extended reals changes nothing. -/
theorem dec_weights (c : Dev nD) : V1 m ρ c main_v2
    = transpose S8192x1024 [1, 0] (m ((c : Thread nD τ).loc main_arg3)) transposes_S1024x8192_S8192x1024_1_0 := rfl

/-- The encoder bias as one row. -/
theorem enc_bias (c : Dev nD) : V1 m ρ c main_v3
    = shapeCast S1x8192 (m ((c : Thread nD τ).loc main_arg2)) shapeCasts_S8192_S1x8192 := rfl

/-- The decoder bias as one row. -/
theorem dec_bias (c : Dev nD) : V1 m ρ c main_v4
    = shapeCast S1x1024 (m ((c : Thread nD τ).loc main_arg4)) shapeCasts_S1024_S1x1024 := rfl

/-- The block index of each window of the first call. -/
theorem idx0 : ∀ t : Fin cfg0.N, win0_0.index t = ![0, 0] ∧ win0_1.index t = ![0, t.val] ∧ win0_2.index t = ![0, t.val]
    ∧ win0_3.index t = ![0, 0] ∧ win0_4.index t = ![0, t.val] := (by decide +kernel : ∀ t : Fin grid0.N, _)

/-- One entry of the block that a point of the first call computes. -/
theorem encOut_at (x0 : Vec Ideal S4096x1024 .f32) (x1 : Vec Ideal S1024x512 .f32) (x2 : Vec Ideal S1x512 .f32) (x3 : Vec Ideal S1x1024 .f32) (y : S4096x512.Idx) :
    encOut (F := Ideal) x0 x1 x2 x3 y = max (∑ k : Fin 1024, (x0 (ix2 (y 0) k) - x3 (ix2 0 k)) * x1 (ix2 k (y 1)) + x2 (ix2 0 (y 1))) 0 := by
  unfold encOut k0_pay1
  pointwise

variable (V : (c : Dev nD) → (b : Ref sig .tc) → Buf (Elt Ideal) ((c : Thread nD τ).loc b))

/-- The first window's block is the whole input. -/
theorem iblk0_0 (c : Dev nD) (t : Fin cfg0.N) (p : Fin 4096) (k : Fin 1024) : iblk0 V c 0 t (ix2 p k) = V c main_arg0 (ix2 p k) := by
  blk_ext [iblk0, idx0 t]

/-- The second window's block at point `t` is the 512 columns of the weights from `512 t` on. -/
theorem iblk0_1 (c : Dev nD) (t : Fin cfg0.N) (k : Fin 1024) (q : Fin 512) (q' : Fin 8192) (hq : (q' : ℕ) = t.val * 512 + q) :
    iblk0 V c 1 t (ix2 k q) = V c main_v0 (ix2 k q') := by
  blk_ext [iblk0, idx0 t]

/-- The third window's block at point `t` is the 512 biases from `512 t` on. -/
theorem iblk0_2 (c : Dev nD) (t : Fin cfg0.N) (q : Fin 512) (q' : Fin 8192) (hq : (q' : ℕ) = t.val * 512 + q) :
    iblk0 V c 2 t (ix2 0 q) = V c main_v3 (ix2 0 q') := by
  blk_ext [iblk0, idx0 t]

/-- The fourth window's block is the whole decoder bias. -/
theorem iblk0_3 (c : Dev nD) (t : Fin cfg0.N) (k : Fin 1024) : iblk0 V c 3 t (ix2 0 k) = V c main_v4 (ix2 0 k) := by
  blk_ext [iblk0, idx0 t]

/-- One entry of the reference's activations. -/
theorem acts_at [Cert.Pre_same_float_cell.Facts] (a0 : Vec Ideal S4096x1024 .f32) (a1 : Vec Ideal S8192x1024 .f32) (a2 : Vec Ideal S8192 .f32) (a4 : Vec Ideal S1024 .f32) (p : Fin 4096) (q : Fin 8192) :
    Cert.Pre_same_float_cell.Own.acts a0 a1 a2 a4 (ix2 p q) = max (∑ k : Fin 1024, (a0 (ix2 p k) - a4 (ix1 k)) * a1 (ix2 q k) + a2 (ix1 q)) 0 := by
  unfold Cert.Pre_same_float_cell.Own.acts
  pointwise

/-- A row of 1024 read at its entry. -/
theorem row_bias (v : Vec Ideal S1024 .f32) (k : Fin 1024) : shapeCast S1x1024 v shapeCasts_S1024_S1x1024 (ix2 0 k) = v (ix1 k) := by
  pointwise

/-- A row of 8192 read at its entry. -/
theorem long_bias (v : Vec Ideal S8192 .f32) (k : Fin 8192) : shapeCast S1x8192 v shapeCasts_S8192_S1x8192 (ix2 0 k) = v (ix1 k) := by
  pointwise

/-- The transposed weights read at an entry. -/
theorem turned (v : Vec Ideal S8192x1024 .f32) (k : Fin 1024) (q : Fin 8192) :
    transpose S1024x8192 [1, 0] v transposes_S8192x1024_S1024x8192_1_0 (ix2 k q) = v (ix2 q k) := by
  pointwise

/-- The block that a point computes is its columns of the activations. -/
theorem enc_point [Cert.Pre_same_float_cell.Facts] (c : Dev nD) (t : Fin cfg0.N) (p : Fin 4096) (q : Fin 512) (q' : Fin 8192) (hq : (q' : ℕ) = t.val * 512 + q) :
    encOut (F := Ideal) (iblk0 (V1 m ρ) c 0 t) (iblk0 (V1 m ρ) c 1 t) (iblk0 (V1 m ρ) c 2 t) (iblk0 (V1 m ρ) c 3 t) (ix2 p q)
      = Cert.Pre_same_float_cell.Own.acts (m ((c : Thread nD τ).loc main_arg0)) (m ((c : Thread nD τ).loc main_arg1)) (m ((c : Thread nD τ).loc main_arg2)) (m ((c : Thread nD τ).loc main_arg4)) (ix2 p q') := by
  refine (encOut_at _ _ _ _ _).trans (Eq.trans ?_ (acts_at _ _ _ _ _ _).symm)
  have e2 := (iblk0_2 (V1 m ρ) c t q q' hq).trans ((congrFun (enc_bias m ρ c) _).trans (long_bias _ q'))
  have e0 : ∀ k, iblk0 (V1 m ρ) c 0 t (ix2 p k) = m ((c : Thread nD τ).loc main_arg0) (ix2 p k) := fun k =>
    (iblk0_0 (V1 m ρ) c t p k).trans (congrFun (W1_args m ρ c main_arg0 (by decide)) _)
  have e3 : ∀ k, iblk0 (V1 m ρ) c 3 t (ix2 0 k) = m ((c : Thread nD τ).loc main_arg4) (ix1 k) := fun k =>
    (iblk0_3 (V1 m ρ) c t k).trans ((congrFun (dec_bias m ρ c) _).trans (row_bias _ k))
  have e1 : ∀ k, iblk0 (V1 m ρ) c 1 t (ix2 k q) = m ((c : Thread nD τ).loc main_arg1) (ix2 q' k) := fun k =>
    (iblk0_1 (V1 m ρ) c t k q q' hq).trans ((congrFun (enc_weights m ρ c) _).trans (turned _ k q'))
  exact congrArg₂ (max : EReal → EReal → EReal) (congrArg₂ (HAdd.hAdd : EReal → EReal → EReal) (Finset.sum_congr rfl fun k _ =>
    congrArg₂ (HMul.hMul : EReal → EReal → EReal) (congrArg₂ (HSub.hSub : EReal → EReal → EReal) (e0 k) (e3 k)) (e1 k)) e2) rfl

/-- After the first call its result holds the activations. -/
theorem pre_final [Cert.Pre_same_float_cell.Facts] (c : Dev nD) : (dat0 (V1 m ρ) c).arrAt 4 cfg0.N
    = Cert.Pre_same_float_cell.Own.acts (m ((c : Thread nD τ).loc main_arg0)) (m ((c : Thread nD τ).loc main_arg1)) (m ((c : Thread nD τ).loc main_arg2)) (m ((c : Thread nD τ).loc main_arg4)) := by
  refine (dat0 (V1 m ρ) c).arrAt_eq_of_covers 4 _ (by decide +kernel) fun t hf y => ?_
  have hq : ((((cfg0.win 4).blk t).view.emb y (1 : Fin 2) : Fin 8192) : ℕ) = t.val * 512 + ((y (1 : Fin 2) : Fin 512) : ℕ) := by
    blk_simp [idx0 t]
  have hp : ((((cfg0.win 4).blk t).view.emb y (0 : Fin 2) : Fin 4096) : ℕ) = ((y (0 : Fin 2) : Fin 4096) : ℕ) := by
    blk_simp [idx0 t]
  blk_simp
  rw [after0_4]
  have hy : (y : S4096x512.Idx) = ix2 (y (0 : Fin 2)) (y (1 : Fin 2)) := by
    funext a; match a with
    | ⟨0, _⟩ => rfl
    | ⟨1, _⟩ => rfl
  have hj : (((cfg0.win 4).blk t).view.emb y : S4096x8192.Idx) = ix2 (y (0 : Fin 2)) ((((cfg0.win 4).blk t).view.emb y (1 : Fin 2) : Fin 8192)) := by
    funext a; match a with
    | ⟨0, _⟩ => exact Fin.ext hp
    | ⟨1, _⟩ => rfl
  exact (congrArg (encOut (F := Ideal) (iblk0 (V1 m ρ) c 0 t) (iblk0 (V1 m ρ) c 1 t) (iblk0 (V1 m ρ) c 2 t) (iblk0 (V1 m ρ) c 3 t)) hy).trans
    ((enc_point m ρ c t _ _ _ hq).trans (congrArg _ hj.symm))

end Cert.KernelIdeal.Own

end
-- ==== Proof.Threshold.lean ====
/- The threshold bisection of the selection, row by row: it ends at neighbouring bit patterns, at least 64 values of
   the row reaching the lower and fewer the upper. -/
module

public import proofs.«01_k».proof.Proof.Reads
public import proofs.«01_k».proof.Proof.Select

@[expose] public section

set_option maxRecDepth 16384

noncomputable section

namespace Cert.KernelIdeal.Own

open Gen
open Idealize.ShloMosaic
open Cert.Row

/-- What the bisection keeps of one row: bounds at most `d` apart, the counts at both. -/
def Bounds (a : Fin 8192 → EReal) (d : ℕ) (lo hi : BitVec 32) (nlo nhi : EReal) : Prop :=
  ∃ L H N M : ℕ, lo = BitVec.ofInt 32 L ∧ hi = BitVec.ofInt 32 H ∧ nlo = ((N : ℝ) : EReal) ∧ nhi = ((M : ℝ) : EReal)
    ∧ L < H ∧ H ≤ Cell.top ∧ H - L ≤ d ∧ N = countGe a (Cell.val L) ∧ 64 ≤ N
    ∧ ((H = Cell.top ∧ M = 0) ∨ (H ≠ Cell.top ∧ M = countGe a (Cell.val H) ∧ M < 64))

/-- Which values reach the middle pattern. -/
theorem count_mid (v : FVec Ideal S256x8192 .f32) (lo hi : IVec S256x1 32) (r : Fin 256) (m : ℕ)
    (hm : k1_pay6 lo hi (ent r) = BitVec.ofInt 32 m) :
    k1_pay7 (F := Ideal) v lo hi (ent r) = (((countGe (row v r) (Cell.val m) : ℕ) : ℝ) : EReal) := by
  refine (marks_eq _ r).trans ?_
  have hc : Row.count (fun i => cmpf (F := Ideal) .oge (k1_pay1 (F := Ideal) v) (broadcastTo S256x8192 (bitcastToFloat (F := Ideal) .f32 (k1_pay6 lo hi)) broadcasts_S256x1_S256x8192) (cell r i) = 1#1)
      = countGe (row v r) (Cell.val m) := by
    refine count_congr fun i => ?_
    refine (oge_iff _ _).trans ?_
    rw [spread]
    unfold k1_pay1
    rw [shapeCast_self]
    have he : bitcastToFloat (F := Ideal) .f32 (k1_pay6 lo hi) (ent r) = Cell.val m := congrArg (Ideal.ofBits .f32) hm
    rw [he]
    exact Iff.rfl
  exact congrArg (fun n : ℕ => ((n : ℝ) : EReal)) hc

/-- Whether 64 of them do. -/
theorem reach_mid (v : FVec Ideal S256x8192 .f32) (lo hi : IVec S256x1 32) (r : Fin 256) (m : ℕ)
    (hm : k1_pay6 lo hi (ent r) = BitVec.ofInt 32 m) :
    k1_pay8 (F := Ideal) v lo hi (ent r) = 1#1 ↔ 64 ≤ countGe (row v r) (Cell.val m) := by
  refine (oge_iff (k1_pay7 (F := Ideal) v lo hi (ent r)) (Ideal.ofBits .f32 0x42800000#32)).trans ?_
  rw [count_mid v lo hi r m hm, lit_64, EReal.coe_le_coe_iff]
  exact_mod_cast Iff.rfl

/-- One trip halves the distance and keeps the rest. -/
theorem bounds_step (v : FVec Ideal S256x8192 .f32) (r : Fin 256) (d : ℕ) (s : SelSt Ideal)
    (h : Bounds (row v r) (2 * d) (s.1 (ent r)) (s.2.1 (ent r)) (s.2.2.1 (ent r)) (s.2.2.2 (ent r))) :
    Bounds (row v r) d ((selStep (F := Ideal) v s).1 (ent r)) ((selStep (F := Ideal) v s).2.1 (ent r)) ((selStep (F := Ideal) v s).2.2.1 (ent r)) ((selStep (F := Ideal) v s).2.2.2 (ent r)) := by
  obtain ⟨L, H, N, M, hlo, hhi, hnlo, hnhi, hlt, htop, hd, hN, hN64, hM⟩ := h
  have hm : k1_pay6 s.1 s.2.1 (ent r) = BitVec.ofInt 32 ((L + (H - L) / 2 : ℕ) : ℤ) := by
    show IntOp.addi (s.1 (ent r)) (IntOp.shrui .vector (IntOp.subi (s.2.1 (ent r)) (s.1 (ent r))) 1#32) = _
    rw [hlo, hhi, mid_eq _ _ (by omega) (by unfold Cell.top at htop; omega)]
    congr 1
    push_cast [Nat.cast_sub hlt.le]
    rfl
  have hc := count_mid v s.1 s.2.1 r _ hm
  have hr := reach_mid v s.1 s.2.1 r _ hm
  by_cases hb : 64 ≤ countGe (row v r) (Cell.val (L + (H - L) / 2))
  · have h1 := hr.mpr hb
    refine ⟨L + (H - L) / 2, H, countGe (row v r) (Cell.val (L + (H - L) / 2)), M, ?_, ?_, ?_, ?_, by omega, htop, by omega, rfl, hb, hM⟩
    · exact (pick_pos _ _ _ _ h1).trans hm
    · exact (pick_pos _ _ _ _ h1).trans hhi
    · exact (pick_pos _ _ _ _ h1).trans hc
    · exact (pick_pos _ _ _ _ h1).trans hnhi
  · have h1 : ¬k1_pay8 (F := Ideal) v s.1 s.2.1 (ent r) = 1#1 := fun h => hb (hr.mp h)
    have hLm : L < L + (H - L) / 2 := by
      by_contra hn
      have he : L + (H - L) / 2 = L := by omega
      rw [he] at hb; omega
    refine ⟨L, L + (H - L) / 2, N, countGe (row v r) (Cell.val (L + (H - L) / 2)), ?_, ?_, ?_, ?_, hLm, by omega, by omega, hN, hN64,
      .inr ⟨by omega, rfl, by omega⟩⟩
    · exact (pick_neg _ _ _ _ h1).trans hlo
    · exact (pick_neg _ _ _ _ h1).trans hm
    · exact (pick_neg _ _ _ _ h1).trans hnlo
    · exact (pick_neg _ _ _ _ h1).trans hc

/-- The bisection starts from zero and infinity, where all and none of the values count. -/
theorem bounds_init (v : FVec Ideal S256x8192 .f32) (r : Fin 256) (h0 : ∀ i, 0 ≤ row v r i) :
    Bounds (row v r) (2 ^ 31) (k1_pay2 (ent r)) (k1_pay3 (ent r)) (k1_pay4 (F := Ideal) (ent r)) (k1_pay5 (F := Ideal) (ent r)) := by
  have hc : countGe (row v r) (Cell.val 0) = 8192 := by
    rw [Cell.val_zero]
    exact (count_congr fun i => ⟨fun _ => trivial, fun _ => h0 i⟩).trans count_true
  refine ⟨0, Cell.top, 8192, 0, rfl, (by decide : 2139095040#32 = BitVec.ofInt 32 Cell.top), ?_, ?_, by decide, le_rfl, by decide, hc.symm, by norm_num, .inl ⟨rfl, rfl⟩⟩
  · exact lit_8192.trans (by norm_num)
  · exact lit_0.trans (by norm_num)

/-- After its 31 trips the bounds are neighbours. -/
theorem bounds_end (v : FVec Ideal S256x8192 .f32) (r : Fin 256) (h0 : ∀ i, 0 ≤ row v r i) :
    Bounds (row v r) 1 ((selState (F := Ideal) v).1 (ent r)) ((selState (F := Ideal) v).2.1 (ent r)) ((selState (F := Ideal) v).2.2.1 (ent r)) ((selState (F := Ideal) v).2.2.2 (ent r)) := by
  have ht : k1_t1_loop.trips = 31 := by decide
  have := fold_keeps (selStep (F := Ideal) v) (fun k s => Bounds (row v r) (2 ^ (31 - k)) (s.1 (ent r)) (s.2.1 (ent r)) (s.2.2.1 (ent r)) (s.2.2.2 (ent r)))
    k1_t1_loop.trips (fun k s hk h => by
      refine bounds_step v r _ s ?_
      rw [show 2 * 2 ^ (31 - (k + 1)) = 2 ^ (31 - k) by
        rw [← pow_succ']; congr 1; omega]
      exact h) (k1_pay2, k1_pay3, k1_pay4 (F := Ideal), k1_pay5 (F := Ideal)) (bounds_init v r h0)
  rw [ht] at this
  exact this

/-- What the bisection finds in a row: its pattern, and the two counts. -/
theorem found (v : FVec Ideal S256x8192 .f32) (r : Fin 256) (h0 : ∀ i, 0 ≤ row v r i) :
    ∃ L N M : ℕ, (selState (F := Ideal) v).1 (ent r) = BitVec.ofInt 32 L ∧ (selState (F := Ideal) v).2.2.1 (ent r) = ((N : ℝ) : EReal)
      ∧ (selState (F := Ideal) v).2.2.2 (ent r) = ((M : ℝ) : EReal) ∧ L < Cell.top
      ∧ Found (row v r) (Cell.val L) (Cell.val (L + 1)) (L + 1 = Cell.top) N M := by
  obtain ⟨L, H, N, M, hlo, hhi, hnlo, hnhi, hlt, htop, hd, hN, hN64, hM⟩ := bounds_end v r h0
  have hH : H = L + 1 := by omega
  subst hH
  exact ⟨L, N, M, hlo, hnlo, hnhi, by omega, Cell.val_lt_succ (by omega), Cell.val_nonneg (by omega), hN, hN64, hM⟩

end Cert.KernelIdeal.Own

end
-- ==== Proof.Cut.lean ====
/- The bisection over the positions of the tied values, row by row: it ends at the least position up to which the ties
   fill the row's 64, or at the last. -/
module

public import proofs.«01_k».proof.Proof.Threshold

@[expose] public section

set_option maxRecDepth 16384

noncomputable section

namespace Cert.KernelIdeal.Own

open Gen
open Idealize.ShloMosaic
open Cert.Row

/-- What the bisection keeps of one row: bounds at most `d` apart, too few ties up to the lower and enough up to the
    upper, unless it is the last position. -/
def Cuts (a : Fin 8192 → EReal) (T : EReal) (M : ℕ) (d : ℤ) (lo hi : BitVec 32) : Prop :=
  ∃ z w : ℤ, lo = BitVec.ofInt 32 z ∧ hi = BitVec.ofInt 32 w ∧ -1 ≤ z ∧ z < w ∧ w ≤ 8191 ∧ w - z ≤ d
    ∧ countTie a T z + M < 64 ∧ (w = 8191 ∨ 64 ≤ countTie a T w + M)

/-- The position number of each entry. -/
theorem position (h : S256x8192.Iotas .tc 32 [1]) (r : Fin 256) (i : Fin 8192) :
    iota .tc S256x8192 32 [1] h (cell r i) = BitVec.ofInt 32 (i.val : ℤ) := by
  show BitVec.ofNat 32 (0 * 8192 + i.val) = _
  rw [Nat.zero_mul, Nat.zero_add]
  rfl

/-- A tied entry. -/
theorem tie_iff (v : FVec Ideal S256x8192 .f32) (lo : IVec S256x1 32) (r : Fin 256) (L : ℕ) (hL : lo (ent r) = BitVec.ofInt 32 L)
    (i : Fin 8192) : k1_pay18 (F := Ideal) v lo (cell r i) = 1#1 ↔ row v r i = Cell.val L := by
  unfold k1_pay18
  refine (oeq_iff _ _).trans ?_
  rw [spread]
  unfold k1_pay1
  rw [shapeCast_self]
  have he : k1_pay13 (F := Ideal) lo (ent r) = Cell.val L := congrArg (Ideal.ofBits .f32) hL
  rw [he]
  exact Iff.rfl

/-- How many places the ties are to fill. -/
theorem places (n : FVec Ideal S256x1 .f32) (r : Fin 256) (M : ℕ) (hM : n (ent r) = ((M : ℝ) : EReal)) :
    k1_pay14 (F := Ideal) n (ent r) = ((64 - (M : ℝ) : ℝ) : EReal) := by
  show Ideal.ofBits .f32 0x42800000#32 - n (ent r) = _
  rw [lit_64, hM, EReal.coe_sub]

/-- Whether the ties up to the middle position fill the places. -/
theorem reach_cut (v : FVec Ideal S256x8192 .f32) (lo : IVec S256x1 32) (n : FVec Ideal S256x1 .f32) (a b : IVec S256x1 32)
    (r : Fin 256) (L M : ℕ) (z : ℤ) (hL : lo (ent r) = BitVec.ofInt 32 L) (hM : n (ent r) = ((M : ℝ) : EReal)) (hz : -1 ≤ z) (hz' : z ≤ 8191)
    (hm : k1_pay21 a b (ent r) = BitVec.ofInt 32 z) :
    k1_pay22 (F := Ideal) v lo n a b (ent r) = 1#1 ↔ 64 ≤ countTie (row v r) (Cell.val L) z + M := by
  have hc : Row.count (fun i => andi (k1_pay18 (F := Ideal) v lo) (cmpi .sle (iota .tc S256x8192 32 [1] iota_S256x8192_d1_w32)
      (broadcastTo S256x8192 (k1_pay21 a b) broadcasts_S256x1_S256x8192)) (cell r i) = 1#1) = countTie (row v r) (Cell.val L) z := by
    refine count_congr fun i => (and_iff _ _).trans (and_congr (tie_iff v lo r L hL i) ?_)
    show IntOp.cmpi .sle (iota .tc S256x8192 32 [1] iota_S256x8192_d1_w32 (cell r i)) (broadcastTo S256x8192 (k1_pay21 a b) broadcasts_S256x1_S256x8192 (cell r i)) = 1#1 ↔ _
    have := i.isLt
    rw [spread, position, hm, sle_iff _ _ (by omega) (by omega) hz hz']
  have hk := (marks_eq (andi (k1_pay18 (F := Ideal) v lo) (cmpi .sle (iota .tc S256x8192 32 [1] iota_S256x8192_d1_w32)
      (broadcastTo S256x8192 (k1_pay21 a b) broadcasts_S256x1_S256x8192))) r).trans (congrArg (fun n : ℕ => ((n : ℝ) : EReal)) hc)
  refine (oge_iff (marks (andi (k1_pay18 (F := Ideal) v lo) (cmpi .sle (iota .tc S256x8192 32 [1] iota_S256x8192_d1_w32)
      (broadcastTo S256x8192 (k1_pay21 a b) broadcasts_S256x1_S256x8192))) (ent r)) (k1_pay14 (F := Ideal) n (ent r))).trans ?_
  rw [hk, places n r M hM, EReal.coe_le_coe_iff, sub_le_iff_le_add]
  exact_mod_cast Iff.rfl

/-- One trip halves the distance and keeps the rest. -/
theorem cuts_step (v : FVec Ideal S256x8192 .f32) (lo : IVec S256x1 32) (n : FVec Ideal S256x1 .f32) (r : Fin 256) (L M : ℕ)
    (hL : lo (ent r) = BitVec.ofInt 32 L) (hM : n (ent r) = ((M : ℝ) : EReal)) (d : ℤ) (s : IVec S256x1 32 × IVec S256x1 32)
    (h : Cuts (row v r) (Cell.val L) M (2 * d) (s.1 (ent r)) (s.2 (ent r))) :
    Cuts (row v r) (Cell.val L) M d ((cutStep (F := Ideal) v lo n s).1 (ent r)) ((cutStep (F := Ideal) v lo n s).2 (ent r)) := by
  obtain ⟨z, w, hlo, hhi, hz, hzw, hw, hd, hlt, hge⟩ := h
  have hm : k1_pay21 s.1 s.2 (ent r) = BitVec.ofInt 32 (z + (w - z) / 2) := by
    show IntOp.addi (s.1 (ent r)) (IntOp.shrui .vector (IntOp.subi (s.2 (ent r)) (s.1 (ent r))) 1#32) = _
    rw [hlo, hhi, mid_eq _ _ (by omega) (by omega)]
  have hr := reach_cut v lo n s.1 s.2 r L M _ hL hM (by omega) (by omega) hm
  by_cases hb : 64 ≤ countTie (row v r) (Cell.val L) (z + (w - z) / 2) + M
  · have h1 := hr.mpr hb
    have hzm : z < z + (w - z) / 2 := by
      by_contra hn
      have he : z + (w - z) / 2 = z := by omega
      rw [he] at hb; omega
    refine ⟨z, z + (w - z) / 2, ?_, ?_, hz, hzm, by omega, by omega, hlt, .inr hb⟩
    · exact (pick_pos _ _ _ _ h1).trans hlo
    · exact (pick_pos _ _ _ _ h1).trans hm
  · have h1 : ¬k1_pay22 (F := Ideal) v lo n s.1 s.2 (ent r) = 1#1 := fun h => hb (hr.mp h)
    refine ⟨z + (w - z) / 2, w, ?_, ?_, by omega, by omega, hw, by omega, by omega, hge⟩
    · exact (pick_neg _ _ _ _ h1).trans hm
    · exact (pick_neg _ _ _ _ h1).trans hhi

/-- What the bisection ends with in a row: the cut. -/
theorem cut_found (v : FVec Ideal S256x8192 .f32) (r : Fin 256) (L M : ℕ)
    (hL : (selState (F := Ideal) v).1 (ent r) = BitVec.ofInt 32 L) (hM : (selState (F := Ideal) v).2.2.2 (ent r) = ((M : ℝ) : EReal)) (hM64 : M < 64) :
    ∃ w : ℤ, (cutState (F := Ideal) v).2 (ent r) = BitVec.ofInt 32 w ∧ -1 ≤ w ∧ w ≤ 8191
      ∧ countTie (row v r) (Cell.val L) (w - 1) + M < 64
      ∧ ((∀ i : Fin 8192, (i.val : ℤ) ≤ w) ∨ 64 ≤ countTie (row v r) (Cell.val L) w + M) := by
  have ht : k1_t2_loop.trips = 13 := by decide
  have hend := fold_keeps (cutStep (F := Ideal) v (selState (F := Ideal) v).1 (selState (F := Ideal) v).2.2.2)
    (fun k s => Cuts (row v r) (Cell.val L) M (2 ^ (13 - k)) (s.1 (ent r)) (s.2 (ent r))) k1_t2_loop.trips (fun k s hk h => by
      refine cuts_step v _ _ r L M hL hM _ s ?_
      rw [show (2 : ℤ) * 2 ^ (13 - (k + 1)) = 2 ^ (13 - k) by
        rw [← pow_succ']; congr 1; omega]
      exact h) (k1_pay19, k1_pay20) ⟨-1, 8191, (by decide : 4294967295#32 = BitVec.ofInt 32 (-1)), (by decide : 8191#32 = BitVec.ofInt 32 8191),
        by norm_num, by norm_num, by norm_num, by norm_num, by
          have : countTie (row v r) (Cell.val L) (-1) = 0 := count_false fun i hi => by have := hi.2; omega
          omega, .inl rfl⟩
  rw [ht] at hend
  obtain ⟨z, w, hlo, hhi, hz, hzw, hw, hd, hlt, hge⟩ := hend
  have hd' : w - z ≤ 1 := by simpa using hd
  have hzw' : z = w - 1 := by omega
  subst hzw'
  refine ⟨w, hhi, by omega, hw, hlt, hge.imp_left fun h i => ?_⟩
  have := i.isLt
  omega

end Cert.KernelIdeal.Own

end
-- ==== Proof.SelectRow.lean ====
/- One row of the selection's output: the row with everything but its 64 first positions at zero. -/
module

public import proofs.«01_k».proof.Proof.Cut

@[expose] public section

set_option maxRecDepth 16384

noncomputable section

namespace Cert.KernelIdeal.Own

open Gen
open Idealize.ShloMosaic
open Cert.Row

/-- The rows whose count is 64 or whose threshold is zero, marked by one, the others by zero. -/
def settled (lo : IVec S256x1 32) (nlo nhi : FVec Ideal S256x1 .f32) : FVec Ideal S256x1 .f32 :=
  select (ori (cmpf (F := Ideal) .oeq (subf nlo nhi) (k1_pay14 (F := Ideal) nhi)) (cmpi .eq lo (broadcast S256x1 0#32)))
    (broadcast S256x1 (Scalar.ofBits (F := Ideal) .f32 0x3F800000#32)) (broadcast S256x1 (Scalar.ofBits (F := Ideal) .f32 0x00000000#32))

/-- A row marked by a positive number is settled. -/
theorem settled_pos (lo : IVec S256x1 32) (nlo nhi : FVec Ideal S256x1 .f32) (r : Fin 256) (L N M : ℕ)
    (hL : lo (ent r) = BitVec.ofInt 32 L) (hLt : L < Cell.top) (hN : nlo (ent r) = ((N : ℝ) : EReal)) (hM : nhi (ent r) = ((M : ℝ) : EReal))
    (h : (0 : EReal) < settled lo nlo nhi (ent r)) : N = 64 ∨ Cell.val L = 0 := by
  by_cases hb : ori (cmpf (F := Ideal) .oeq (subf nlo nhi) (k1_pay14 (F := Ideal) nhi)) (cmpi .eq lo (broadcast S256x1 0#32)) (ent r) = 1#1
  · rcases (or_iff _ _).mp hb with h' | h'
    · left
      have h2 : nlo (ent r) - nhi (ent r) = k1_pay14 (F := Ideal) nhi (ent r) := (oeq_iff _ _).mp h'
      rw [places nhi r M hM, hN, hM, ← EReal.coe_sub, EReal.coe_eq_coe_iff, sub_left_inj] at h2
      exact_mod_cast h2
    · right
      have h2 : lo (ent r) = 0#32 := (eq_zero_iff _).mp h'
      rw [hL] at h2
      have h3 := congrArg BitVec.toNat h2
      rw [BitVec.toNat_ofInt] at h3
      unfold Cell.top at hLt
      have hz : L = 0 := by simp at h3; omega
      rw [hz, Cell.val_zero]
  · exfalso
    have h2 : settled lo nlo nhi (ent r) = 0 := (pick_neg _ _ _ _ hb).trans Cell.val_zero
    rw [h2] at h
    exact lt_irrefl _ h

/-- The least mark of the block bounds every row's. -/
theorem least_mark (lo : IVec S256x1 32) (nlo nhi : FVec Ideal S256x1 .f32) (h : (0 : EReal) < k1_pay17 (F := Ideal) lo nlo nhi) (r : Fin 256) :
    (0 : EReal) < settled lo nlo nhi (ent r) := by
  have hj : ∃ j : S1.Idx, k1_pay17 (F := Ideal) lo nlo nhi = multiReduction (F := Ideal) .minimumf [1, 2] S1
      (shapeCast S1x256x1 (settled lo nlo nhi) shapeCasts_S256x1_S1x256x1) 0x7F800000#32 reduces_S1x256x1_S1 (.inl rfl) rfl j := ⟨_, rfl⟩
  obtain ⟨j, hj⟩ := hj
  have hfold := h.trans_eq (hj.trans (multiReduction_minimumf_eq_fold _ _ _ _ _ _))
  have hmem := ((Finset.lt_fold_min _).mp hfold).2
  let i : S1x256x1.Idx := fun a => ⟨(![0, r.val, 0] : Fin 3 → ℕ) a, by
    match a with
    | ⟨0, _⟩ => exact Nat.one_pos
    | ⟨1, _⟩ => exact r.isLt
    | ⟨2, _⟩ => exact Nat.one_pos⟩
  have hi := hmem i (Finset.mem_filter.mpr ⟨Finset.mem_univ i, by
    funext a
    apply Fin.ext
    match a with
    | ⟨0, _⟩ =>
      have h1 := (j 0).isLt
      have h2 := (reduces_S1x256x1_S1.drop i 0).isLt
      exact (Nat.lt_one_iff.mp h2).trans (Nat.lt_one_iff.mp h1).symm⟩)
  rw [shapeCast_apply _ _ i (ent r) (by
    have h1 := Shape.rowMajor_pair_val (d := ![256, 1]) r (0 : Fin 1)
    have h2 := Shape.rowMajor_val_three i
    refine h1.trans (Eq.trans ?_ h2.symm)
    simp [i])] at hi
  exact hi

/-- Where the slow path is not taken every row is settled. -/
theorem settled_all (v : FVec Ideal S256x8192 .f32) (h : ¬selFlag (F := Ideal) v = 1#1) (r : Fin 256) :
    (0 : EReal) < settled (selState (F := Ideal) v).1 (selState (F := Ideal) v).2.2.1 (selState (F := Ideal) v).2.2.2 (ent r) := by
  refine least_mark _ _ _ ?_ r
  by_contra hn
  refine h ?_
  have hc : Ideal.cmp .ogt (k1_pay17 (F := Ideal) (selState (F := Ideal) v).1 (selState (F := Ideal) v).2.2.1 (selState (F := Ideal) v).2.2.2)
      (Ideal.ofBits .f32 0x00000000#32) = 0#1 := by
    refine (bit_cases _).resolve_right fun h1 => hn ?_
    have := (ogt_iff _ _).mp h1
    rwa [lit_0] at this
  unfold selFlag
  have hc' : Scalar.cmpf (F := Ideal) .ogt (k1_pay17 (F := Ideal) (selState (F := Ideal) v).1 (selState (F := Ideal) v).2.2.1 (selState (F := Ideal) v).2.2.2)
      (Scalar.ofBits (F := Ideal) .f32 0x00000000#32) = 0#1 := hc
  rw [hc']
  decide

/-- The threshold's cut on the fast path. -/
theorem fast_row (v : FVec Ideal S256x8192 .f32) (lo : IVec S256x1 32) (r : Fin 256) (L : ℕ) (hL : lo (ent r) = BitVec.ofInt 32 L) (i : Fin 8192) :
    k1_pay15 (F := Ideal) v lo (cell r i) = if Cell.val L ≤ row v r i then row v r i else 0 := by
  have hb : cmpf (F := Ideal) .oge (k1_pay1 (F := Ideal) v) (broadcastTo S256x8192 (k1_pay13 (F := Ideal) lo) broadcasts_S256x1_S256x8192) (cell r i) = 1#1
      ↔ Cell.val L ≤ row v r i := by
    refine (oge_iff _ _).trans ?_
    rw [spread]
    unfold k1_pay1
    rw [shapeCast_self]
    have he : k1_pay13 (F := Ideal) lo (ent r) = Cell.val L := congrArg (Ideal.ofBits .f32) hL
    rw [he]
    exact Iff.rfl
  have hv : k1_pay1 (F := Ideal) v (cell r i) = row v r i := by unfold k1_pay1; rw [shapeCast_self]; rfl
  by_cases h : Cell.val L ≤ row v r i
  · rw [if_pos h]; exact (pick_pos _ _ _ _ (hb.mpr h)).trans hv
  · rw [if_neg h]; exact (pick_neg _ _ _ _ fun h' => h (hb.mp h')).trans Cell.val_zero

/-- The threshold's cut and that of the ties on the slow path. -/
theorem slow_row (v : FVec Ideal S256x8192 .f32) (lo cut : IVec S256x1 32) (r : Fin 256) (L : ℕ) (hL : lo (ent r) = BitVec.ofInt 32 L)
    (w : ℤ) (hw : -1 ≤ w) (hw' : w ≤ 8191) (hcut : cut (ent r) = BitVec.ofInt 32 w) (i : Fin 8192) :
    k1_pay25 (F := Ideal) v lo cut (cell r i) = open Classical in if Cell.val L < row v r i ∨ (row v r i = Cell.val L ∧ (i.val : ℤ) ≤ w) then row v r i else 0 := by
  classical
  have hb : ori (cmpf (F := Ideal) .ogt (k1_pay1 (F := Ideal) v) (broadcastTo S256x8192 (k1_pay13 (F := Ideal) lo) broadcasts_S256x1_S256x8192))
        (andi (k1_pay18 (F := Ideal) v lo) (cmpi .sle (iota .tc S256x8192 32 [1] iota_S256x8192_d1_w32)
          (broadcastTo S256x8192 cut broadcasts_S256x1_S256x8192))) (cell r i) = 1#1
      ↔ Cell.val L < row v r i ∨ (row v r i = Cell.val L ∧ (i.val : ℤ) ≤ w) := by
    refine (or_iff _ _).trans (or_congr ?_ ((and_iff _ _).trans (and_congr (tie_iff v lo r L hL i) ?_)))
    · refine (ogt_iff _ _).trans ?_
      rw [spread]
      unfold k1_pay1
      rw [shapeCast_self]
      have he : k1_pay13 (F := Ideal) lo (ent r) = Cell.val L := congrArg (Ideal.ofBits .f32) hL
      rw [he]
      exact Iff.rfl
    · show IntOp.cmpi .sle (iota .tc S256x8192 32 [1] iota_S256x8192_d1_w32 (cell r i)) (broadcastTo S256x8192 cut broadcasts_S256x1_S256x8192 (cell r i)) = 1#1 ↔ _
      have := i.isLt
      rw [spread, position, hcut, sle_iff _ _ (by omega) (by omega) hw hw']
  have hv : k1_pay1 (F := Ideal) v (cell r i) = row v r i := by unfold k1_pay1; rw [shapeCast_self]; rfl
  by_cases h : Cell.val L < row v r i ∨ (row v r i = Cell.val L ∧ (i.val : ℤ) ≤ w)
  · rw [if_pos h]; exact (pick_pos _ _ _ _ (hb.mpr h)).trans hv
  · rw [if_neg h]; exact (pick_neg _ _ _ _ fun h' => h (hb.mp h')).trans Cell.val_zero

/-- What is assumed of the row, at the pattern found. -/
def Apart (v : FVec Ideal S256x8192 .f32) (r : Fin 256) : Prop :=
  ∀ (L N M : ℕ), L < Cell.top → Found (row v r) (Cell.val L) (Cell.val (L + 1)) (L + 1 = Cell.top) N M →
    Separated (row v r) (Cell.val L) (Cell.val (L + 1)) (L + 1 = Cell.top)

/-- THE SELECTION, one entry of its output. -/
theorem selOut_entry (v : FVec Ideal S256x8192 .f32) (r : Fin 256) (h0 : ∀ i, 0 ≤ row v r i) (hs : Apart v r) (i : Fin 8192) :
    selOut (F := Ideal) v (cell r i) = hidden (row v r) i := by
  obtain ⟨L, N, M, hL, hN, hM, hlt, hf⟩ := found v r h0
  have hsep := hs L N M hlt hf
  unfold selOut
  by_cases hflag : selFlag (F := Ideal) v = 1#1
  · rw [if_pos hflag]
    obtain ⟨w, hw, hw1, hw2, hc1, hc2⟩ := cut_found v r L M hL hM hf.hi_lt
    rw [slow_row v _ _ r L hL w hw1 hw2 hw i]
    exact hf.slow h0 hsep hc1 hc2 i
  · rw [if_neg hflag, fast_row v _ r L hL i]
    exact (by classical convert hf.fast h0 hsep (settled_pos _ _ _ r L N M hL hlt hN hM (settled_all v hflag r)) i)

/-- The half-precision output is the same values. -/
theorem selOut16_eq (v : FVec Ideal S256x8192 .f32) : selOut16 (F := Ideal) v = selOut (F := Ideal) v := by
  unfold selOut16 selOut
  by_cases hflag : selFlag (F := Ideal) v = 1#1
  · rw [if_pos hflag, if_pos hflag]; rfl
  · rw [if_neg hflag, if_neg hflag]; rfl

end Cert.KernelIdeal.Own

end
-- ==== Proof.SelectValue.lean ====
/- The second kernel call read at the extended reals: its results are the reference's sparse hidden matrix. -/
module

public import proofs.«01_k».proof.Proof.EncodeValue
public import proofs.«01_k».proof.Proof.SelectRow
public import proofs.«01_k».proof.Proof.Table

@[expose] public section

set_option maxRecDepth 16384

noncomputable section

namespace Cert.KernelIdeal.Own

open Gen Cert.Row
open Idealize.ShloMosaic Idealize.ShloMosaic.TcCoe
open Idealize.ShloMosaic.Pipeline (Dat Cfg Window)
open Cert.Pre_same_float_cell.Own (acts okOf)
open Cert.ReferenceIdeal.Own (line sparse)

/-- The two ways to write a rank-two index. -/
theorem pair_ix2 {a b : ℕ} (r : Fin a) (c : Fin b) : (Shape.pair (d := ![a, b]) r c) = ix2 r c := by
  funext x
  match x with
  | ⟨0, _⟩ => rfl
  | ⟨1, _⟩ => rfl

/-- A rank-two index is made of its coordinates. -/
theorem eq_ix2 {a b : ℕ} (y : (⟨2, ![a, b]⟩ : Shape).Idx) : y = ix2 (y (0 : Fin 2)) (y (1 : Fin 2)) := by
  funext x
  match x with
  | ⟨0, _⟩ => rfl
  | ⟨1, _⟩ => rfl

/-- The block index of each window of the second call. -/
theorem idx1 : ∀ t : Fin cfg1.N, win1_0.index t = ![t.val, 0] ∧ win1_1.index t = ![t.val, 0] ∧ win1_2.index t = ![t.val, 0] :=
  (by decide +kernel : ∀ t : Fin grid1.N, _)

variable (V : (c : Dev nD) → (b : Ref sig .tc) → Buf (Elt Ideal) ((c : Thread nD τ).loc b))

/-- The first window's block at point `t` is the 256 rows from `256 t` on. -/
theorem iblk1_0 (c : Dev nD) (t : Fin cfg1.N) (r : Fin 256) (r' : Fin 4096) (i : Fin 8192) (hr : (r' : ℕ) = t.val * 256 + r) :
    iblk1 V c 0 t (ix2 r i) = V c main_v5 (ix2 r' i) := by
  blk_ext [iblk1, idx1 t]

variable [Cert.Pre_same_float_cell.Facts]
variable (x : FVec Ideal Cert.ReferenceIdeal.S4096x8192 .f32)

/-- A row of a block, as the row of the matrix it is. -/
theorem row_block (c : Dev nD) (t : Fin cfg1.N) (hx : V c main_v5 = x) (r : Fin 256) (r' : Fin 4096) (hr : (r' : ℕ) = t.val * 256 + r) :
    row (iblk1 V c 0 t) r = line x r' :=
  funext fun i => (congrArg (iblk1 V c 0 t) (pair_ix2 r i)).trans ((iblk1_0 V c t r r' i hr).trans ((congrFun hx _).trans
    (congrArg x (pair_ix2 r' i).symm)))

/-- The block that a point of the second call computes is its rows of the sparse hidden matrix. -/
theorem sel_point (c : Dev nD) (t : Fin cfg1.N) (hx : V c main_v5 = x) (h0 : ∀ r q, 0 ≤ line x r q)
    (hok : ∀ r, okOf x (Cert.Pre_same_float_cell.Own.ent r) = 1#1)
    (r : Fin 256) (r' : Fin 4096) (hr : (r' : ℕ) = t.val * 256 + r) (q : Fin 8192) :
    selOut (F := Ideal) (iblk1 V c 0 t) (ix2 r q) = sparse x (ix2 r' q) := by
  have e := row_block V x c t hx r r' hr
  have h := selOut_entry (iblk1 V c 0 t) r (by intro i; rw [e]; exact h0 r' i)
    (by intro L N M hL hf; rw [e] at hf ⊢; exact Cert.Pre_same_float_cell.Own.separated x r' (hok r') hL hf) q
  rw [e] at h
  exact (congrArg (selOut (F := Ideal) (iblk1 V c 0 t)) (pair_ix2 r q).symm).trans
    (h.trans ((Cert.ReferenceIdeal.Own.sparse_entry x r' q).symm.trans (congrArg (sparse x) (pair_ix2 r' q))))

/-- After the second call its wide result holds the sparse hidden matrix, -/
theorem sel_final (c : Dev nD) (hx : V c main_v5 = x) (h0 : ∀ r q, 0 ≤ line x r q)
    (hok : ∀ r, okOf x (Cert.Pre_same_float_cell.Own.ent r) = 1#1) :
    (dat1 V c).arrAt 1 cfg1.N = sparse x := by
  refine (dat1 V c).arrAt_eq_of_covers 1 _ (by decide +kernel) fun t hf y => ?_
  have hq : ((((cfg1.win 1).blk t).view.emb y (1 : Fin 2) : Fin 8192) : ℕ) = ((y (1 : Fin 2) : Fin 8192) : ℕ) := by
    blk_simp [idx1 t]
  have hp : ((((cfg1.win 1).blk t).view.emb y (0 : Fin 2) : Fin 4096) : ℕ) = t.val * 256 + ((y (0 : Fin 2) : Fin 256) : ℕ) := by
    blk_simp [idx1 t]
  blk_simp
  rw [after1_1]
  have hj : (((cfg1.win 1).blk t).view.emb y : S4096x8192.Idx) = ix2 ((((cfg1.win 1).blk t).view.emb y (0 : Fin 2) : Fin 4096)) (y (1 : Fin 2)) := by
    funext a; match a with
    | ⟨0, _⟩ => rfl
    | ⟨1, _⟩ => exact Fin.ext hq
  exact (congrArg (selOut (F := Ideal) (iblk1 V c 0 t)) (eq_ix2 (a := 256) (b := 8192) y)).trans
    ((sel_point V x c t hx h0 hok _ _ hp _).trans (congrArg (sparse x) hj.symm))

/-- and so does its narrow one. -/
theorem sel_final16 (c : Dev nD) (hx : V c main_v5 = x) (h0 : ∀ r q, 0 ≤ line x r q)
    (hok : ∀ r, okOf x (Cert.Pre_same_float_cell.Own.ent r) = 1#1) :
    (dat1 V c).arrAt 2 cfg1.N = sparse x := by
  refine (dat1 V c).arrAt_eq_of_covers 2 _ (by decide +kernel) fun t hf y => ?_
  have hq : ((((cfg1.win 2).blk t).view.emb y (1 : Fin 2) : Fin 8192) : ℕ) = ((y (1 : Fin 2) : Fin 8192) : ℕ) := by
    blk_simp [idx1 t]
  have hp : ((((cfg1.win 2).blk t).view.emb y (0 : Fin 2) : Fin 4096) : ℕ) = t.val * 256 + ((y (0 : Fin 2) : Fin 256) : ℕ) := by
    blk_simp [idx1 t]
  blk_simp
  rw [after1_2]
  have hj : (((cfg1.win 2).blk t).view.emb y : S4096x8192.Idx) = ix2 ((((cfg1.win 2).blk t).view.emb y (0 : Fin 2) : Fin 4096)) (y (1 : Fin 2)) := by
    funext a; match a with
    | ⟨0, _⟩ => rfl
    | ⟨1, _⟩ => exact Fin.ext hq
  exact (congrFun (selOut16_eq (iblk1 V c 0 t)) y).trans ((congrArg (selOut (F := Ideal) (iblk1 V c 0 t)) (eq_ix2 (a := 256) (b := 8192) y)).trans
    ((sel_point V x c t hx h0 hok _ _ hp _).trans (congrArg (sparse x) hj.symm)))

end Cert.KernelIdeal.Own

end
-- ==== Proof.Recon.lean ====
/- The reference's reconstruction, squared error and mean squared error, read at an entry. -/
module

public import proofs.«01_k».proof.Proof.EncodeValue
public import proofs.«01_k».proof.Proof.Table
public import proofs.«01_k».proof.Proof.RefRun

@[expose] public section

set_option maxRecDepth 16384

noncomputable section

namespace Cert.ReferenceIdeal.Own

open Cert.ReferenceIdeal.Gen
open Idealize.ShloMosaic Idealize.ShloMosaic.TcCoe
open Cert.Pre_same_float_cell.Own (acts)

/-- The reconstruction: the hidden matrix times the turned decoder weights, plus the decoder bias. -/
def recon (h : FVec Ideal S4096x8192 .f32) (a3 : FVec Ideal S1024x8192 .f32) (a4 : FVec Ideal S1024 .f32) : FVec Ideal S4096x1024 .f32 :=
  addf (Host.dotGeneral dot_S4096x8192_S8192x1024_S4096x1024_1_0_0_1_n_n none h (transpose S8192x1024 [1, 0] a3 transposes_S1024x8192_S8192x1024_1_0))
    (broadcastInDim S4096x1024 ![0, 1] bcast_S1x1024_S4096x1024_0_1 (broadcastInDim S1x1024 ![1] bcast_S1024_S1x1024_1 a4))

/-- The squared error, summed. -/
def err (y x : FVec Ideal S4096x1024 .f32) : FVec Ideal S_ .f32 :=
  Host.reduceAdd (mulf (subf y x) (subf y x)) (constant S_ .f32 0x00000000#32) reducesTo_S4096x1024_S_d0_1 h_S_

/-- Its mean. -/
def mean (e : FVec Ideal S_ .f32) : FVec Ideal S_ .f32 := Host.divf e (constant S_ .f32 0x4A800000#32)

/-- An entry of the reconstruction. -/
theorem recon_at (h : FVec Ideal S4096x8192 .f32) (a3 : FVec Ideal S1024x8192 .f32) (a4 : FVec Ideal S1024 .f32) (p : Fin 4096) (q : Fin 1024) :
    recon h a3 a4 (ix2 p q) = ∑ k : Fin 8192, h (ix2 p k) * a3 (ix2 q k) + a4 (ix1 q) := by
  unfold recon
  pointwise

/-- The squared error of one row. -/
def rowErr (y x : FVec Ideal S4096x1024 .f32) (p : Fin 4096) : EReal :=
  ∑ q : Fin 1024, (y (ix2 p q) - x (ix2 p q)) * (y (ix2 p q) - x (ix2 p q))

/-- The squared error is the sum of the rows'. -/
theorem err_at (y x : FVec Ideal S4096x1024 .f32) (j : S_.Idx) : err y x j = ∑ p : Fin 4096, rowErr y x p := by
  unfold err rowErr
  pointwise

/-- The number of entries, as the word the reference divides by. -/
theorem lit_entries : Ideal.ofBits .f32 0x4A800000#32 = ((4194304 : ℝ) : EReal) := by
  have h : (0x4A800000#32 : BitVec 32) = BitVec.ofNat 32 1249902592 := by decide
  rw [h]; refine (Cell.val_coe (n := 1249902592) (by norm_num [Cell.top])).trans ?_
  norm_num [Cell.mant, Cell.gap, Cell.ex]

/-- Its inverse, as the word the kernel multiplies by. -/
theorem lit_inverse : Ideal.ofBits .f32 0x34800000#32 = ((1 / 4194304 : ℝ) : EReal) := by
  have h : (0x34800000#32 : BitVec 32) = BitVec.ofNat 32 880803840 := by decide
  rw [h]; refine (Cell.val_coe (n := 880803840) (by norm_num [Cell.top])).trans ?_
  norm_num [Cell.mant, Cell.gap, Cell.ex]

/-- The mean is the sum times the inverse of the number of entries. -/
theorem mean_at (e : FVec Ideal S_ .f32) (j : S_.Idx) : mean e j = e j * ((1 / 4194304 : ℝ) : EReal) := by
  have h : mean e j = Ideal.div (e j) (Ideal.ofBits .f32 0x4A800000#32) := rfl
  rw [h, lit_entries]
  exact Ideal.div_coe (by norm_num) _

variable [Cert.Pre_same_float_cell.Facts] (m : (ℓ : Loc nD τ sig) → Buf (Elt Ideal) ℓ) (c : Dev nD)

/-- The reference's sparse hidden matrix, from the arguments. -/
abbrev hid : FVec Ideal S4096x8192 .f32 :=
  sparse (acts (m ((c : Thread nD τ).loc main_arg0)) (m ((c : Thread nD τ).loc main_arg1)) (m ((c : Thread nD τ).loc main_arg2)) (m ((c : Thread nD τ).loc main_arg4)))

/-- The reference's first result is the reconstruction, -/
theorem res_recon : Value.res_main_v31 m c = recon (hid m c) (m ((c : Thread nD τ).loc main_arg3)) (m ((c : Thread nD τ).loc main_arg4)) := rfl

/-- its third the squared error, -/
theorem res_err : Value.res_main_v34 m c
    = err (recon (hid m c) (m ((c : Thread nD τ).loc main_arg3)) (m ((c : Thread nD τ).loc main_arg4))) (m ((c : Thread nD τ).loc main_arg0)) := rfl

/-- its fourth the mean. -/
theorem res_mean : Value.res_main_v37 m c
    = mean (err (recon (hid m c) (m ((c : Thread nD τ).loc main_arg3)) (m ((c : Thread nD τ).loc main_arg4))) (m ((c : Thread nD τ).loc main_arg0))) := rfl

end Cert.ReferenceIdeal.Own

end
-- ==== Proof.DecodeValue.lean ====
/- The third kernel call read at the extended reals: the reconstruction, its squared error, and the mean. -/
module

public import proofs.«01_k».proof.Proof.SelectValue
public import proofs.«01_k».proof.Proof.Recon

@[expose] public section

set_option maxRecDepth 16384

noncomputable section

namespace Cert.KernelIdeal.Own

open Gen
open Idealize.ShloMosaic Idealize.ShloMosaic.TcCoe
open Idealize.ShloMosaic.Pipeline (Dat Cfg Window)
open Cert.ReferenceIdeal.Own (recon err mean rowErr)

/-- The block index of each window of the third call. -/
theorem idx2 : ∀ t : Fin cfg2.N, win2_0.index t = ![t.val, 0] ∧ win2_1.index t = ![0, 0] ∧ win2_2.index t = ![t.val, 0]
    ∧ win2_3.index t = ![0, 0] ∧ win2_4.index t = ![t.val, 0] := (by decide +kernel : ∀ t : Fin grid2.N, _)

/-- An entry of the block of the reconstruction that a point computes. -/
theorem decOut_at (x0 : Vec Ideal S512x8192 .bf16) (x1 : Vec Ideal S8192x1024 .bf16) (x3 : Vec Ideal S1x1024 .f32) (p : Fin 512) (q : Fin 1024) :
    decOut (F := Ideal) x0 x1 x3 (ix2 p q) = ∑ k : Fin 8192, x0 (ix2 p k) * x1 (ix2 k q) + x3 (ix2 0 q) := by
  unfold decOut k2_pay1
  pointwise

/-- The part of the squared error that a point computes. -/
theorem decPart_at (x0 : Vec Ideal S512x8192 .bf16) (x1 : Vec Ideal S8192x1024 .bf16) (x2 : Vec Ideal S512x1024 .f32) (x3 : Vec Ideal S1x1024 .f32) (j : S1x1.Idx) :
    decPart (F := Ideal) x0 x1 x2 x3 j = ∑ p : Fin 512, ∑ q : Fin 1024,
      (decOut (F := Ideal) x0 x1 x3 (ix2 p q) - x2 (ix2 p q)) * (decOut (F := Ideal) x0 x1 x3 (ix2 p q) - x2 (ix2 p q)) := by
  unfold decPart k2_pay2 decOut
  generalize k2_pay1 x0 x1 x3 = z
  pointwise

/-- Adding a point's part to the total. -/
theorem decAdd_at (x0 : Vec Ideal S512x8192 .bf16) (x1 : Vec Ideal S8192x1024 .bf16) (x2 : Vec Ideal S512x1024 .f32) (x3 : Vec Ideal S1x1024 .f32) (a : Vec Ideal S1x1 .f32) (j : S1x1.Idx) :
    decAdd (F := Ideal) x0 x1 x2 x3 a j = a j + decPart (F := Ideal) x0 x1 x2 x3 j := by
  unfold decAdd k2_pay3 decPart
  generalize k2_pay2 x0 x1 x3 x2 = z
  pointwise

/-- Scaling the total. -/
theorem scaled_at (a : Vec Ideal S1x1 .f32) (j : S1x1.Idx) : k2_pay4 (F := Ideal) a j = a j * ((1 / 4194304 : ℝ) : EReal) := by
  unfold k2_pay4
  rw [shapeCast_self]
  exact congrArg (fun z => a j * z) Cert.ReferenceIdeal.Own.lit_inverse

/-- The turned decoder weights read at an entry. -/
theorem turned_dec (v : Vec Ideal S1024x8192 .bf16) (k : Fin 8192) (q : Fin 1024) :
    transpose S8192x1024 [1, 0] v transposes_S1024x8192_S8192x1024_1_0 (ix2 k q) = v (ix2 q k) := by
  pointwise

variable (V : (c : Dev nD) → (b : Ref sig .tc) → Buf (Elt Ideal) ((c : Thread nD τ).loc b))

/-- The first window's block at point `t` is the 512 rows from `512 t` on of the hidden matrix. -/
theorem iblk2_0 (c : Dev nD) (t : Fin cfg2.N) (r : Fin 512) (r' : Fin 4096) (i : Fin 8192) (hr : (r' : ℕ) = t.val * 512 + r) :
    iblk2 V c 0 t (ix2 r i) = V c main_v6_1 (ix2 r' i) := by
  blk_ext [iblk2, idx2 t]

/-- The second window's block is the whole of the weights. -/
theorem iblk2_1 (c : Dev nD) (t : Fin cfg2.N) (k : Fin 8192) (q : Fin 1024) : iblk2 V c 1 t (ix2 k q) = V c main_v2 (ix2 k q) := by
  blk_ext [iblk2, idx2 t]

/-- The third window's block at point `t` is the 512 rows from `512 t` on of the input. -/
theorem iblk2_2 (c : Dev nD) (t : Fin cfg2.N) (r : Fin 512) (r' : Fin 4096) (q : Fin 1024) (hr : (r' : ℕ) = t.val * 512 + r) :
    iblk2 V c 2 t (ix2 r q) = V c main_arg0 (ix2 r' q) := by
  blk_ext [iblk2, idx2 t]

/-- The fourth window's block is the whole decoder bias. -/
theorem iblk2_3 (c : Dev nD) (t : Fin cfg2.N) (q : Fin 1024) : iblk2 V c 3 t (ix2 0 q) = V c main_v4 (ix2 0 q) := by
  blk_ext [iblk2, idx2 t]

variable (h : FVec Ideal Cert.ReferenceIdeal.S4096x8192 .f32) (a3 : FVec Ideal Cert.ReferenceIdeal.S1024x8192 .f32)
  (a4 : FVec Ideal Cert.ReferenceIdeal.S1024 .f32) (x : FVec Ideal Cert.ReferenceIdeal.S4096x1024 .f32)

/-- What the third call finds at its entry: the hidden matrix, the turned weights, the input and the bias as one row. -/
structure Found2 (c : Dev nD) : Prop where
  hid : V c main_v6_1 = h
  wts : V c main_v2 = transpose S8192x1024 [1, 0] (a3 : Vec Ideal S1024x8192 .bf16) transposes_S1024x8192_S8192x1024_1_0
  inp : V c main_arg0 = x
  bias : V c main_v4 = shapeCast S1x1024 (a4 : Vec Ideal S1024 .f32) shapeCasts_S1024_S1x1024

variable {V h a3 a4 x}

/-- The block that a point of the third call computes is its rows of the reconstruction. -/
theorem dec_point {c : Dev nD} (H : Found2 V h a3 a4 x c) (t : Fin cfg2.N) (p : Fin 512) (p' : Fin 4096) (q : Fin 1024)
    (hp : (p' : ℕ) = t.val * 512 + p) :
    decOut (F := Ideal) (iblk2 V c 0 t) (iblk2 V c 1 t) (iblk2 V c 3 t) (ix2 p q) = recon h a3 a4 (ix2 p' q) := by
  refine (decOut_at _ _ _ _ _).trans (Eq.trans ?_ (Cert.ReferenceIdeal.Own.recon_at _ _ _ _ _).symm)
  have e0 : ∀ k, iblk2 V c 0 t (ix2 p k) = h (ix2 p' k) := fun k => (iblk2_0 V c t p p' k hp).trans (congrFun H.hid _)
  have e1 : ∀ k, iblk2 V c 1 t (ix2 k q) = a3 (ix2 q k) := fun k => (iblk2_1 V c t k q).trans ((congrFun H.wts _).trans (turned_dec a3 k q))
  have e3 : iblk2 V c 3 t (ix2 0 q) = a4 (ix1 q) := (iblk2_3 V c t q).trans ((congrFun H.bias _).trans (row_bias _ q))
  exact congrArg₂ (HAdd.hAdd : EReal → EReal → EReal) (Finset.sum_congr rfl fun k _ =>
    congrArg₂ (HMul.hMul : EReal → EReal → EReal) (e0 k) (e1 k)) e3

/-- The squared error of row `r`, nothing past the last. -/
def errRow (y x : FVec Ideal Cert.ReferenceIdeal.S4096x1024 .f32) (r : ℕ) : EReal := if hr : r < 4096 then rowErr y x ⟨r, hr⟩ else 0

/-- The part of the squared error that a point computes is that of its rows. -/
theorem part_point {c : Dev nD} (H : Found2 V h a3 a4 x c) (t : Fin cfg2.N) (j : S1x1.Idx) :
    decPart (F := Ideal) (iblk2 V c 0 t) (iblk2 V c 1 t) (iblk2 V c 2 t) (iblk2 V c 3 t) j
      = ∑ p ∈ Finset.range 512, errRow (recon h a3 a4) x (512 * t.val + p) := by
  have ht : t.val < 8 := Nat.lt_of_lt_of_eq t.isLt N_2
  refine (decPart_at _ _ _ _ _).trans (Eq.trans (Finset.sum_congr rfl fun p _ => ?_)
    (Fin.sum_univ_eq_sum_range (fun p => errRow (recon h a3 a4) x (512 * t.val + p)) 512))
  have hp : 512 * t.val + p.val < 4096 := by have := p.isLt; omega
  have hp' : ((⟨512 * t.val + p.val, hp⟩ : Fin 4096) : ℕ) = t.val * 512 + p := by show 512 * t.val + p.val = _; omega
  rw [errRow, dif_pos hp]
  refine Finset.sum_congr rfl fun q _ => ?_
  have e := dec_point H t p ⟨512 * t.val + p.val, hp⟩ q hp'
  have e2 : iblk2 V c 2 t (ix2 p q) = x (ix2 ⟨512 * t.val + p.val, hp⟩ q) := (iblk2_2 V c t p _ q hp').trans (congrFun H.inp _)
  have e3 := congrArg₂ (HSub.hSub : EReal → EReal → EReal) e e2
  exact congrArg₂ (HMul.hMul : EReal → EReal → EReal) e3 e3

/-- The running total after point `n` is the squared error of the rows so far. -/
theorem total_rows {c : Dev nD} (H : Found2 V h a3 a4 x c) (j : S1x1.Idx) : ∀ (n : ℕ) (hn : n < cfg2.N),
    total V c n hn j = ∑ r ∈ Finset.range (512 * (n + 1)), errRow (recon h a3 a4) x r
  | 0, hn => by
    refine (part_point H ⟨0, hn⟩ j).trans ?_
    simp only [Nat.mul_zero, Nat.zero_add, Nat.mul_one]
  | n + 1, hn => by
    refine (decAdd_at _ _ _ _ _ j).trans ?_
    rw [total_rows H j n, part_point H ⟨n + 1, hn⟩ j, show 512 * (n + 1 + 1) = 512 * (n + 1) + 512 from rfl, Finset.sum_range_add]

/-- The last total is the whole squared error. -/
theorem total_last {c : Dev nD} (H : Found2 V h a3 a4 x c) (j : S1x1.Idx) (j' : Cert.ReferenceIdeal.S_.Idx) (t : Fin cfg2.N) (ht : t.val = 7) :
    total V c t.val t.isLt j = err (recon h a3 a4) x j' := by
  rw [total_rows H j, Cert.ReferenceIdeal.Own.err_at, ht]
  refine (Fin.sum_univ_eq_sum_range (errRow (recon h a3 a4) x) 4096).symm.trans (Finset.sum_congr rfl fun p _ => ?_)
  rw [errRow, dif_pos p.isLt]

/-- After the third call its first result holds the reconstruction, -/
theorem dec_final {c : Dev nD} (H : Found2 V h a3 a4 x c) : (dat2 V c).arrAt 4 cfg2.N = recon h a3 a4 := by
  refine (dat2 V c).arrAt_eq_of_covers 4 _ (by decide +kernel) fun t hf y => ?_
  have hq : ((((cfg2.win 4).blk t).view.emb y (1 : Fin 2) : Fin 1024) : ℕ) = ((y (1 : Fin 2) : Fin 1024) : ℕ) := by
    blk_simp [idx2 t]
  have hp : ((((cfg2.win 4).blk t).view.emb y (0 : Fin 2) : Fin 4096) : ℕ) = t.val * 512 + ((y (0 : Fin 2) : Fin 512) : ℕ) := by
    blk_simp [idx2 t]
  blk_simp
  rw [after2_4]
  have hj : (((cfg2.win 4).blk t).view.emb y : S4096x1024.Idx) = ix2 ((((cfg2.win 4).blk t).view.emb y (0 : Fin 2) : Fin 4096)) (y (1 : Fin 2)) := by
    funext a; match a with
    | ⟨0, _⟩ => rfl
    | ⟨1, _⟩ => exact Fin.ext hq
  exact (congrArg (decOut (F := Ideal) (iblk2 V c 0 t) (iblk2 V c 1 t) (iblk2 V c 3 t)) (eq_ix2 (a := 512) (b := 1024) y)).trans
    ((dec_point H t _ _ _ hp).trans (congrArg (recon h a3 a4) hj.symm))

/-- The two scalar results are written back at the last point only. -/
theorem flush2_5 : ∀ t : Fin cfg2.N, (cfg2.win 5).flush t = true → t.val = 7 := (by decide +kernel : ∀ t : Fin grid2.N, _)
theorem flush2_6 : ∀ t : Fin cfg2.N, (cfg2.win 6).flush t = true → t.val = 7 := (by decide +kernel : ∀ t : Fin grid2.N, _)

/-- its second the squared error, -/
theorem err_final {c : Dev nD} (H : Found2 V h a3 a4 x c) (j' : Cert.ReferenceIdeal.S_.Idx) :
    (dat2 V c).arrAt 5 cfg2.N = fun _ => err (recon h a3 a4) x j' := by
  refine (dat2 V c).arrAt_eq_of_covers 5 _ (by decide +kernel) fun t hf y => ?_
  blk_simp
  rw [after2_5]
  exact total_last H _ j' t (flush2_5 t hf)

/-- and its third the mean. -/
theorem mean_final {c : Dev nD} (H : Found2 V h a3 a4 x c) (j' : Cert.ReferenceIdeal.S_.Idx) :
    (dat2 V c).arrAt 6 cfg2.N = fun _ => mean (err (recon h a3 a4) x) j' := by
  refine (dat2 V c).arrAt_eq_of_covers 6 _ (by decide +kernel) fun t hf y => ?_
  blk_simp
  rw [after2_6]
  exact (scaled_at _ _).trans ((congrArg (fun z => z * ((1 / 4194304 : ℝ) : EReal)) (total_last H _ j' t (flush2_6 t hf))).trans
    (Cert.ReferenceIdeal.Own.mean_at _ j').symm)

end Cert.KernelIdeal.Own

end
-- ==== Proof.Tie.lean ====
/- The two runs side by side: from the same arguments, where the precondition holds, the kernel's four results
   are the reference's. -/
module

public import proofs.«01_k».proof.Proof.DecodeValue

@[expose] public section

set_option maxRecDepth 16384

noncomputable section

namespace Cert.KernelIdeal.Own

open Gen
open Idealize.ShloMosaic Idealize.ShloMosaic.TcCoe Idealize.SL.Sem
open Idealize.ShloMosaic.Pipeline (Dat Cfg Window)
open Cert.Pre_same_float_cell.Own (acts okOf)
open Cert.ReferenceIdeal.Own (recon err mean sparse)

variable [Cert.Pre_same_float_cell.Facts]
variable (m : (ℓ : Loc nD τ sig) → Buf (Elt Ideal) ℓ) (ρ : Dev nD → PrngReg) (c : Dev nD)

/-- The activations of the arguments at launch. -/
abbrev act : FVec Ideal Cert.ReferenceIdeal.S4096x8192 .f32 :=
  acts (m ((c : Thread nD τ).loc main_arg0)) (m ((c : Thread nD τ).loc main_arg1)) (m ((c : Thread nD τ).loc main_arg2)) (m ((c : Thread nD τ).loc main_arg4))

/-- The reconstruction of the arguments at launch. -/
abbrev rec : FVec Ideal Cert.ReferenceIdeal.S4096x1024 .f32 :=
  recon (sparse (act m c)) (m ((c : Thread nD τ).loc main_arg3)) (m ((c : Thread nD τ).loc main_arg4))

/-- The second call finds the activations, -/
theorem found1 : V2 m ρ c main_v5 = act m c := (W2_arr m ρ c 4).trans (pre_final m ρ c)

variable (hok : ∀ r, okOf (act m c) (Cert.Pre_same_float_cell.Own.ent r) = 1#1)
include hok

/-- leaves the sparse hidden matrix, -/
theorem left1 : W3 m ρ c (Proc.devRef .tc main_v6_0) = sparse (act m c) :=
  (W3_arr m ρ c 1).trans (sel_final (V2 m ρ) (act m c) c (found1 m ρ c) (Cert.Pre_same_float_cell.Own.acts_nonneg _ _ _ _) hok)

/-- and the third call finds it beside the turned weights, the input and the bias. -/
theorem found2 : Found2 (V3 m ρ) (sparse (act m c)) (m ((c : Thread nD τ).loc main_arg3)) (m ((c : Thread nD τ).loc main_arg4))
    (m ((c : Thread nD τ).loc main_arg0)) c where
  hid := (W3_arr m ρ c 2).trans (sel_final16 (V2 m ρ) (act m c) c (found1 m ρ c) (Cert.Pre_same_float_cell.Own.acts_nonneg _ _ _ _) hok)
  wts := (W3_of m ρ c main_v2 (by decide +kernel)).trans ((W2_of m ρ c main_v2 (by decide +kernel)).trans (dec_weights m ρ c))
  inp := W3_args m ρ c main_arg0 (by decide)
  bias := (W3_of m ρ c main_v4 (by decide +kernel)).trans ((W2_of m ρ c main_v4 (by decide +kernel)).trans (dec_bias m ρ c))

/-- The kernel's first result, -/
theorem out_recon : W5 m ρ c (Proc.devRef .tc main_v7_0) = rec m c :=
  (W5_of m ρ c main_v7_0 (by decide +kernel)).trans ((W4_arr m ρ c 4).trans (dec_final (found2 m ρ c hok)))

/-- its second, -/
theorem out_hidden : W5 m ρ c (Proc.devRef .tc main_v6_0) = sparse (act m c) :=
  (W5_of m ρ c main_v6_0 (by decide +kernel)).trans ((W4_of m ρ c main_v6_0 (by decide +kernel)).trans (left1 m ρ c hok))

/-- its third, -/
theorem out_err : W5 m ρ c (Proc.devRef .tc main_v8) = err (rec m c) (m ((c : Thread nD τ).loc main_arg0)) := by
  have h : W5 m ρ c (Proc.devRef .tc main_v8) = shapeCast S_ (W4 m ρ c (Proc.devRef .tc main_v7_1)) shapeCasts_S1x1_S_ := rfl
  refine h.trans (funext fun j => ?_)
  exact congrFun ((W4_arr m ρ c 5).trans (err_final (found2 m ρ c hok) j)) _

/-- its fourth. -/
theorem out_mean : W5 m ρ c (Proc.devRef .tc main_v9) = mean (err (rec m c) (m ((c : Thread nD τ).loc main_arg0))) := by
  have h : W5 m ρ c (Proc.devRef .tc main_v9) = shapeCast S_ (W4 m ρ c (Proc.devRef .tc main_v7_2)) shapeCasts_S1x1_S_ := rfl
  refine h.trans (funext fun j => ?_)
  exact congrFun ((W4_arr m ρ c 6).trans (mean_final (found2 m ρ c hok) j)) _

end Cert.KernelIdeal.Own

namespace Cert.Tie

open Idealize.ShloMosaic Idealize.ShloMosaic.TcCoe Idealize.SL.Sem
open Cert.KernelIdeal.Own (act rec mem_uc)
open Cert.ReferenceIdeal.Own (err mean sparse)

/-- The value claim. -/
theorem algebraic [hPre : Cert.Pre_same_float_cell.Facts] :
    Cert.algebraic_KernelIdeal_ReferenceIdeal_pre_same_float_cell (hKernelIdeal := Cert.KernelIdeal.Gen.facts)
      (hReferenceIdeal := Cert.ReferenceIdeal.Gen.facts) (hPre_same_float_cell := hPre) := by
  intro m g m' g' hpre hagree
  have hok : ∀ c r, Cert.Pre_same_float_cell.Own.okOf (act m c) (Cert.Pre_same_float_cell.Own.ent r) = 1#1 := fun c r =>
    congrFun ((Cert.Pre_same_float_cell.Own.fn_eq _ _ _ _ _).symm.trans (hpre c)) _
  refine ⟨fun c => rec m c, fun c => sparse (act m c),
    fun c => err (rec m c) (m ((c : Thread Cert.KernelIdeal.nD Cert.KernelIdeal.τ).loc Cert.KernelIdeal.main_arg0)),
    fun c => mean (err (rec m c) (m ((c : Thread Cert.KernelIdeal.nD Cert.KernelIdeal.τ).loc Cert.KernelIdeal.main_arg0))), ?_, ?_⟩
  · refine (θ_run _ _ _).mono (fun r h c => ?_) (Cert.KernelIdeal.Own.run_all (F := Ideal) m g)
    exact ⟨(h.1 c _ (mem_uc Cert.KernelIdeal.main_v7_0 (by decide))).trans (Cert.KernelIdeal.Own.out_recon m g c (hok c)),
      (h.1 c _ (mem_uc Cert.KernelIdeal.main_v6_0 (by decide))).trans (Cert.KernelIdeal.Own.out_hidden m g c (hok c)),
      (h.1 c _ (mem_uc Cert.KernelIdeal.main_v8 (by decide))).trans (Cert.KernelIdeal.Own.out_err m g c (hok c)),
      (h.1 c _ (mem_uc Cert.KernelIdeal.main_v9 (by decide))).trans (Cert.KernelIdeal.Own.out_mean m g c (hok c)),
      (h.1 c _ (mem_uc Cert.KernelIdeal.main_arg0 (by decide))).trans (Cert.KernelIdeal.Own.W5_args m g c _ (by decide)),
      (h.1 c _ (mem_uc Cert.KernelIdeal.main_arg1 (by decide))).trans (Cert.KernelIdeal.Own.W5_args m g c _ (by decide)),
      (h.1 c _ (mem_uc Cert.KernelIdeal.main_arg2 (by decide))).trans (Cert.KernelIdeal.Own.W5_args m g c _ (by decide)),
      (h.1 c _ (mem_uc Cert.KernelIdeal.main_arg3 (by decide))).trans (Cert.KernelIdeal.Own.W5_args m g c _ (by decide)),
      (h.1 c _ (mem_uc Cert.KernelIdeal.main_arg4 (by decide))).trans (Cert.KernelIdeal.Own.W5_args m g c _ (by decide))⟩
  · refine (θ_run _ _ _).mono (fun r h c => ?_) (Cert.ReferenceIdeal.Value.run (F := Ideal) m' g')
    obtain ⟨h0, h1, h2, h3, hargs⟩ := h c
    obtain ⟨e0, e1, e2, e3, e4⟩ := hagree c
    have ehid : Cert.ReferenceIdeal.Own.hid m' c = sparse (act m c) := by
      unfold Cert.ReferenceIdeal.Own.hid act
      rw [e0, e1, e2, e4]
    have erec : Cert.ReferenceIdeal.Own.recon (Cert.ReferenceIdeal.Own.hid m' c)
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4)) = rec m c := by
      unfold rec
      rw [ehid, e3, e4]
    have eerr := congrArg₂ err erec e0
    have h1' : r.2.mem ((c.tc : Thread Cert.ReferenceIdeal.nD Cert.ReferenceIdeal.τ).loc Cert.ReferenceIdeal.main_v26)
        = Cert.ReferenceIdeal.Own.hid m' c := h1
    exact ⟨h0.trans ((Cert.ReferenceIdeal.Own.res_recon m' c).trans erec), h1'.trans ehid,
      h2.trans ((Cert.ReferenceIdeal.Own.res_err m' c).trans eerr),
      h3.trans ((Cert.ReferenceIdeal.Own.res_mean m' c).trans (congrArg mean eerr)), hargs⟩

end Cert.Tie

end
-- ==== Proof.lean ====
module

public import proofs.«01_k».proof.Defs
public import proofs.«01_k».proof.Proof.KernelRun
public import proofs.«01_k».proof.Proof.RefRun
public import proofs.«01_k».proof.Proof.Tie
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_same_float_cell.Own.facts,
    Cert.Kernel.Own.frame,
    fun m g _ => Cert.KernelIdeal.Own.frame m g,
    fun m g _ => Cert.KernelIdeal.Own.frame m g,
    Cert.ReferenceIdeal.Own.frame,
    fun m g _ => Cert.ReferenceIdeal.Own.frame m g trivial,
    trivial,
    Cert.Tie.algebraic (hPre := Cert.Pre_same_float_cell.Own.facts)⟩

end Cert.Proof

end
